-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S192x2 : Shape := ⟨2, ![192, 2]⟩
abbrev S12x64 : Shape := ⟨2, ![12, 64]⟩
abbrev S4096x128 : Shape := ⟨2, ![4096, 128]⟩
abbrev S128x4096 : Shape := ⟨2, ![128, 4096]⟩
abbrev S16x8x4096 : Shape := ⟨3, ![16, 8, 4096]⟩
abbrev S11x48x4096 : Shape := ⟨3, ![11, 48, 4096]⟩
abbrev S64x4096 : Shape := ⟨2, ![64, 4096]⟩
abbrev S1x8x4096 : Shape := ⟨3, ![1, 8, 4096]⟩
abbrev S8x4096 : Shape := ⟨2, ![8, 4096]⟩
abbrev S1x4096 : Shape := ⟨2, ![1, 4096]⟩
abbrev S2x4096 : Shape := ⟨2, ![2, 4096]⟩
abbrev S64x2 : Shape := ⟨2, ![64, 2]⟩
abbrev S32x4096 : Shape := ⟨2, ![32, 4096]⟩
abbrev S4096 : Shape := ⟨1, ![4096]⟩
abbrev S16x4096 : Shape := ⟨2, ![16, 4096]⟩
abbrev S8x8x4096 : Shape := ⟨3, ![8, 8, 4096]⟩
abbrev S4x64 : Shape := ⟨2, ![4, 64]⟩
abbrev S4x4096 : Shape := ⟨2, ![4, 4096]⟩
abbrev S48x4096 : Shape := ⟨2, ![48, 4096]⟩
abbrev S1x48x4096 : Shape := ⟨3, ![1, 48, 4096]⟩

abbrev nBuf : Space → Nat
  | .hbm => 12
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S192x2, .bf16⟩
  | .hbm, ⟨2, _⟩ => ⟨S12x64, .bf16⟩
  | .hbm, ⟨3, _⟩ => ⟨S4096x128, .f32⟩
  | .hbm, ⟨4, _⟩ => ⟨S128x4096, .f32⟩
  | .hbm, ⟨5, _⟩ => ⟨S16x8x4096, .f32⟩
  | .hbm, ⟨6, _⟩ => ⟨S4096x128, .f32⟩
  | .hbm, ⟨7, _⟩ => ⟨S128x4096, .f32⟩
  | .hbm, ⟨8, _⟩ => ⟨S16x8x4096, .f32⟩
  | .hbm, ⟨9, _⟩ => ⟨S16x8x4096, .f32⟩
  | .hbm, ⟨10, _⟩ => ⟨S128x4096, .f32⟩
  | .hbm, ⟨11, _⟩ => ⟨S4096x128, .f32⟩
  | .local _ .vmem, ⟨0, _⟩ => ⟨S16x8x4096, .f32⟩
  | .local _ .vmem, ⟨1, _⟩ => ⟨S16x8x4096, .f32⟩
  | .local _ .vmem, ⟨2, _⟩ => ⟨S192x2, .bf16⟩
  | .local _ .vmem, ⟨3, _⟩ => ⟨S12x64, .bf16⟩
  | .local _ .vmem, ⟨4, _⟩ => ⟨S16x8x4096, .f32⟩
  | .local _ .vmem, ⟨5, _⟩ => ⟨S11x48x4096, .i32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32 : BitVec 32 := 0#32
  let c5_i32 : BitVec 32 := 5#32
  let v3 : BitVec 32 := Scalar.addi c0_i32 c5_i32
  let c1_i32 : BitVec 32 := 1#32
  ⟨c0_i32, v3, c1_i32⟩
def k0_off1 (k0_t1 : Fin k0_t1_loop.trips) (c0_i32_12 : BitVec 32) : Fin 3 → Nat :=
  let c3_i32 : BitVec 32 := 3#32
  let c0_i32 : BitVec 32 := 0#32
  let c1_i32 : BitVec 32 := 1#32
  let arg7 : BitVec 32 := Scf.iv c0_i32 c1_i32 k0_t1
  let v10 : BitVec 32 := Scalar.muli c3_i32 arg7
  let v11 : BitVec 32 := Scalar.addi v10 c0_i32_12
  let c16_i32 : BitVec 32 := 16#32
  let v12 : BitVec 32 := Scalar.remsi v11 c16_i32
  let v13 : Index := Scalar.indexCast v12
  let c0_13 : Index := 0#32
  let c0_14 : Index := 0#32
  ![v13.toNat, 0, 0]
@[reducible] def k0_t2_loop : Scf.Loop 32 :=
  let c5_i32_4 : BitVec 32 := 5#32
  let c11_i32 : BitVec 32 := 11#32
  let v5 : BitVec 32 := Scalar.addi c5_i32_4 c11_i32
  let c1_i32_5 : BitVec 32 := 1#32
  ⟨c5_i32_4, v5, c1_i32_5⟩
def k0_off2 (k0_t2 : Fin k0_t2_loop.trips) (c0_i32_12 : BitVec 32) : Fin 3 → Nat :=
  let c3_i32 : BitVec 32 := 3#32
  let c5_i32_4 : BitVec 32 := 5#32
  let c1_i32_5 : BitVec 32 := 1#32
  let arg7 : BitVec 32 := Scf.iv c5_i32_4 c1_i32_5 k0_t2
  let v10 : BitVec 32 := Scalar.muli c3_i32 arg7
  let v11 : BitVec 32 := Scalar.addi v10 c0_i32_12
  let c16_i32 : BitVec 32 := 16#32
  let v12 : BitVec 32 := Scalar.remsi v11 c16_i32
  let v13 : Index := Scalar.indexCast v12
  let c0_13 : Index := 0#32
  let c0_14 : Index := 0#32
  ![v13.toNat, 0, 0]
def k0_off3 (k0_t2 : Fin k0_t2_loop.trips) : Fin 3 → Nat :=
  let c5_i32_4 : BitVec 32 := 5#32
  let c1_i32_5 : BitVec 32 := 1#32
  let arg7 : BitVec 32 := Scf.iv c5_i32_4 c1_i32_5 k0_t2
  let c5_i32_210 : BitVec 32 := 5#32
  let v1068 : BitVec 32 := Scalar.subi arg7 c5_i32_210
  let v1069 : Index := Scalar.indexCast v1068
  let c0_211 : Index := 0#32
  let c0_212 : Index := 0#32
  ![v1069.toNat, 0, 0]
@[reducible] def k0_t3_loop : Scf.Loop 32 :=
  let c0_i32_8 : BitVec 32 := 0#32
  let c11_i32_9 : BitVec 32 := 11#32
  let v8 : BitVec 32 := Scalar.addi c0_i32_8 c11_i32_9
  let c1_i32_10 : BitVec 32 := 1#32
  ⟨c0_i32_8, v8, c1_i32_10⟩
def k0_off4 (k0_t3 : Fin k0_t3_loop.trips) : Fin 3 → Nat :=
  let c15_i32 : BitVec 32 := 15#32
  let c0_i32_8 : BitVec 32 := 0#32
  let c1_i32_10 : BitVec 32 := 1#32
  let arg7 : BitVec 32 := Scf.iv c0_i32_8 c1_i32_10 k0_t3
  let v10 : BitVec 32 := Scalar.subi c15_i32 arg7
  let c5_i32_12 : BitVec 32 := 5#32
  let v11 : BitVec 32 := Scalar.subi v10 c5_i32_12
  let v12 : Index := Scalar.indexCast v11
  let c0_13 : Index := 0#32
  let c0_14 : Index := 0#32
  ![v12.toNat, 0, 0]
def k0_cond1 (k0_t3 : Fin k0_t3_loop.trips) : BitVec 1 :=
  let c3_i32 : BitVec 32 := 3#32
  let c15_i32 : BitVec 32 := 15#32
  let c0_i32_8 : BitVec 32 := 0#32
  let c1_i32_10 : BitVec 32 := 1#32
  let arg7 : BitVec 32 := Scf.iv c0_i32_8 c1_i32_10 k0_t3
  let v10 : BitVec 32 := Scalar.subi c15_i32 arg7
  let v175 : BitVec 32 := Scalar.muli c3_i32 v10
  let c2_i32 : BitVec 32 := 2#32
  let v176 : BitVec 32 := Scalar.addi v175 c2_i32
  let c16_i32 : BitVec 32 := 16#32
  let v178 : BitVec 1 := Scalar.cmpi .sge v176 c16_i32
  let c32_i32_69 : BitVec 32 := 32#32
  let v179 : BitVec 1 := Scalar.cmpi .slt v176 c32_i32_69
  let v180 : BitVec 1 := Scalar.andi v178 v179
  let v181 : BitVec 32 := Scalar.extui v180
  let c0_i32_70 : BitVec 32 := 0#32
  let v182 : BitVec 1 := Scalar.cmpi .ne v181 c0_i32_70
  v182

def k0_off5 (k0_t3 : Fin k0_t3_loop.trips) : Fin 3 → Nat :=
  let c3_i32 : BitVec 32 := 3#32
  let c15_i32 : BitVec 32 := 15#32
  let c0_i32_8 : BitVec 32 := 0#32
  let c1_i32_10 : BitVec 32 := 1#32
  let arg7 : BitVec 32 := Scf.iv c0_i32_8 c1_i32_10 k0_t3
  let v10 : BitVec 32 := Scalar.subi c15_i32 arg7
  let v175 : BitVec 32 := Scalar.muli c3_i32 v10
  let c2_i32 : BitVec 32 := 2#32
  let v176 : BitVec 32 := Scalar.addi v175 c2_i32
  let c16_i32_193 : BitVec 32 := 16#32
  let v519 : BitVec 32 := Scalar.subi v176 c16_i32_193
  let v520 : Index := Scalar.indexCast v519
  let c0_194 : Index := 0#32
  let c0_195 : Index := 0#32
  ![v520.toNat, 0, 0]
def k0_cond2 (k0_t3 : Fin k0_t3_loop.trips) : BitVec 1 :=
  let c3_i32_127 : BitVec 32 := 3#32
  let c15_i32 : BitVec 32 := 15#32
  let c0_i32_8 : BitVec 32 := 0#32
  let c1_i32_10 : BitVec 32 := 1#32
  let arg7 : BitVec 32 := Scf.iv c0_i32_8 c1_i32_10 k0_t3
  let v10 : BitVec 32 := Scalar.subi c15_i32 arg7
  let v343 : BitVec 32 := Scalar.muli c3_i32_127 v10
  let c1_i32_128 : BitVec 32 := 1#32
  let v344 : BitVec 32 := Scalar.addi v343 c1_i32_128
  let c16_i32_129 : BitVec 32 := 16#32
  let v346 : BitVec 1 := Scalar.cmpi .sge v344 c16_i32_129
  let c32_i32_130 : BitVec 32 := 32#32
  let v347 : BitVec 1 := Scalar.cmpi .slt v344 c32_i32_130
  let v348 : BitVec 1 := Scalar.andi v346 v347
  let v349 : BitVec 32 := Scalar.extui v348
  let c0_i32_131 : BitVec 32 := 0#32
  let v350 : BitVec 1 := Scalar.cmpi .ne v349 c0_i32_131
  v350

def k0_off6 (k0_t3 : Fin k0_t3_loop.trips) : Fin 3 → Nat :=
  let c3_i32_127 : BitVec 32 := 3#32
  let c15_i32 : BitVec 32 := 15#32
  let c0_i32_8 : BitVec 32 := 0#32
  let c1_i32_10 : BitVec 32 := 1#32
  let arg7 : BitVec 32 := Scf.iv c0_i32_8 c1_i32_10 k0_t3
  let v10 : BitVec 32 := Scalar.subi c15_i32 arg7
  let v343 : BitVec 32 := Scalar.muli c3_i32_127 v10
  let c1_i32_128 : BitVec 32 := 1#32
  let v344 : BitVec 32 := Scalar.addi v343 c1_i32_128
  let c16_i32_193 : BitVec 32 := 16#32
  let v519 : BitVec 32 := Scalar.subi v344 c16_i32_193
  let v520 : Index := Scalar.indexCast v519
  let c0_194 : Index := 0#32
  let c0_195 : Index := 0#32
  ![v520.toNat, 0, 0]
def k0_cond3 (k0_t3 : Fin k0_t3_loop.trips) : BitVec 1 :=
  let c3_i32_188 : BitVec 32 := 3#32
  let c15_i32 : BitVec 32 := 15#32
  let c0_i32_8 : BitVec 32 := 0#32
  let c1_i32_10 : BitVec 32 := 1#32
  let arg7 : BitVec 32 := Scf.iv c0_i32_8 c1_i32_10 k0_t3
  let v10 : BitVec 32 := Scalar.subi c15_i32 arg7
  let v511 : BitVec 32 := Scalar.muli c3_i32_188 v10
  let c0_i32_189 : BitVec 32 := 0#32
  let v512 : BitVec 32 := Scalar.addi v511 c0_i32_189
  let c16_i32_190 : BitVec 32 := 16#32
  let v514 : BitVec 1 := Scalar.cmpi .sge v512 c16_i32_190
  let c32_i32_191 : BitVec 32 := 32#32
  let v515 : BitVec 1 := Scalar.cmpi .slt v512 c32_i32_191
  let v516 : BitVec 1 := Scalar.andi v514 v515
  let v517 : BitVec 32 := Scalar.extui v516
  let c0_i32_192 : BitVec 32 := 0#32
  let v518 : BitVec 1 := Scalar.cmpi .ne v517 c0_i32_192
  v518

def k0_off7 (k0_t3 : Fin k0_t3_loop.trips) : Fin 3 → Nat :=
  let c3_i32_188 : BitVec 32 := 3#32
  let c15_i32 : BitVec 32 := 15#32
  let c0_i32_8 : BitVec 32 := 0#32
  let c1_i32_10 : BitVec 32 := 1#32
  let arg7 : BitVec 32 := Scf.iv c0_i32_8 c1_i32_10 k0_t3
  let v10 : BitVec 32 := Scalar.subi c15_i32 arg7
  let v511 : BitVec 32 := Scalar.muli c3_i32_188 v10
  let c0_i32_189 : BitVec 32 := 0#32
  let v512 : BitVec 32 := Scalar.addi v511 c0_i32_189
  let c16_i32_193 : BitVec 32 := 16#32
  let v519 : BitVec 32 := Scalar.subi v512 c16_i32_193
  let v520 : Index := Scalar.indexCast v519
  let c0_194 : Index := 0#32
  let c0_195 : Index := 0#32
  ![v520.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S16x8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x8x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S192x2 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S12x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x8x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== ReferenceIdeal.lean ====
abbrev S4096x256 : Shape := ⟨2, ![4096, 256]⟩
abbrev S64x2 : Shape := ⟨2, ![64, 2]⟩
abbrev S64x2x2 : Shape := ⟨3, ![64, 2, 2]⟩
abbrev S1x4096x1x256 : Shape := ⟨4, ![1, 4096, 1, 256]⟩
abbrev S1x4096x3x256 : Shape := ⟨4, ![1, 4096, 3, 256]⟩
abbrev S4096x768 : Shape := ⟨2, ![4096, 768]⟩
abbrev S_ : Shape := ⟨0, ![]⟩
abbrev S4096x384x2 : Shape := ⟨3, ![4096, 384, 2]⟩
abbrev S384x4096x2 : Shape := ⟨3, ![384, 4096, 2]⟩
abbrev S4096x64 : Shape := ⟨2, ![4096, 64]⟩
abbrev S64 : Shape := ⟨1, ![64]⟩
abbrev S384x4096x64 : Shape := ⟨3, ![384, 4096, 64]⟩
abbrev S1x4096x2 : Shape := ⟨3, ![1, 4096, 2]⟩
abbrev S4096x2 : Shape := ⟨2, ![4096, 2]⟩
abbrev S4096x64x2 : Shape := ⟨3, ![4096, 64, 2]⟩
abbrev S64x2x1 : Shape := ⟨3, ![64, 2, 1]⟩
abbrev S1x64 : Shape := ⟨2, ![1, 64]⟩
abbrev S4096x64x1 : Shape := ⟨3, ![4096, 64, 1]⟩
abbrev S4096 : Shape := ⟨1, ![4096]⟩
abbrev S4096x1 : Shape := ⟨2, ![4096, 1]⟩
abbrev S1x4096x64 : Shape := ⟨3, ![1, 4096, 64]⟩
abbrev S384x4096 : Shape := ⟨2, ![384, 4096]⟩
abbrev S1x4096 : Shape := ⟨2, ![1, 4096]⟩
abbrev S4096x384 : Shape := ⟨2, ![4096, 384]⟩
abbrev S4096x128 : Shape := ⟨2, ![4096, 128]⟩

abbrev nBuf : Space → Nat
  | .hbm => 165
  | .vmem => 0
  | .smem => 0
  | _ => 0

abbrev hbmTy0_0 (i : Nat) : BufTy := match i % 128 with
  | 0 => ⟨S4096x256, .f32⟩
  | 1 => ⟨S64x2, .i32⟩
  | 2 => ⟨S64x2x2, .f32⟩
  | 3 => ⟨S1x4096x1x256, .f32⟩
  | 4 => ⟨S1x4096x3x256, .f32⟩
  | 5 => ⟨S4096x768, .f32⟩
  | 6 => ⟨S_, .i32⟩
  | 7 => ⟨S_, .i32⟩
  | 8 => ⟨S_, .f32⟩
  | 9 => ⟨S4096x768, .f32⟩
  | 10 => ⟨S4096x768, .f32⟩
  | 11 => ⟨S_, .f32⟩
  | 12 => ⟨S4096x768, .f32⟩
  | 13 => ⟨S4096x768, .f32⟩
  | 14 => ⟨S4096x384x2, .f32⟩
  | 15 => ⟨S384x4096x2, .f32⟩
  | 16 => ⟨S_, .f32⟩
  | 17 => ⟨S4096x64, .f32⟩
  | 18 => ⟨S64, .i32⟩
  | 19 => ⟨S_, .f32⟩
  | 20 => ⟨S384x4096x64, .f32⟩
  | 21 => ⟨S_, .f32⟩
  | 22 => ⟨S384x4096x64, .f32⟩
  | 23 => ⟨S_, .i32⟩
  | 24 => ⟨S384x4096x2, .f32⟩
  | 25 => ⟨S64x2x2, .f32⟩
  | 26 => ⟨S64x2, .i32⟩
  | 27 => ⟨S64, .i32⟩
  | 28 => ⟨S_, .i32⟩
  | 29 => ⟨S4096x64, .f32⟩
  | 30 => ⟨S384x4096x64, .f32⟩
  | 31 => ⟨S384x4096x64, .f32⟩
  | 32 => ⟨S_, .i32⟩
  | 33 => ⟨S_, .i1⟩
  | 34 => ⟨S_, .i32⟩
  | 35 => ⟨S_, .i32⟩
  | 36 => ⟨S1x4096x2, .f32⟩
  | 37 => ⟨S4096x2, .f32⟩
  | 38 => ⟨S4096x64x2, .f32⟩
  | 39 => ⟨S_, .i32⟩
  | 40 => ⟨S64x2, .i32⟩
  | 41 => ⟨S64x2, .i1⟩
  | 42 => ⟨S_, .i32⟩
  | 43 => ⟨S64x2, .i32⟩
  | 44 => ⟨S64x2, .i32⟩
  | 45 => ⟨S64x2, .i32⟩
  | 46 => ⟨S64x2x1, .i32⟩
  | 47 => ⟨S4096x64x2, .f32⟩
  | 48 => ⟨S4096x64x2, .f32⟩
  | 49 => ⟨S_, .f32⟩
  | 50 => ⟨S4096x64, .f32⟩
  | 51 => ⟨S4096x64x2, .i32⟩
  | 52 => ⟨S_, .f32⟩
  | 53 => ⟨S_, .i32⟩
  | 54 => ⟨S4096x64, .f32⟩
  | 55 => ⟨S4096x64, .i32⟩
  | 56 => ⟨S1x64, .i32⟩
  | 57 => ⟨S_, .i32⟩
  | 58 => ⟨S1x64, .i32⟩
  | 59 => ⟨S1x64, .i1⟩
  | 60 => ⟨S_, .i32⟩
  | 61 => ⟨S1x64, .i32⟩
  | 62 => ⟨S1x64, .i32⟩
  | 63 => ⟨S1x64, .i32⟩
  | 64 => ⟨S_, .i32⟩
  | 65 => ⟨S4096x64, .i32⟩
  | 66 => ⟨S4096x64, .i1⟩
  | 67 => ⟨S_, .i32⟩
  | 68 => ⟨S4096x64, .i32⟩
  | 69 => ⟨S4096x64, .i32⟩
  | 70 => ⟨S4096x64, .i32⟩
  | 71 => ⟨S4096x64, .i32⟩
  | 72 => ⟨S4096x64x1, .i32⟩
  | 73 => ⟨S4096x64x1, .i32⟩
  | 74 => ⟨S4096x64x2, .i32⟩
  | 75 => ⟨S4096x64, .i32⟩
  | 76 => ⟨S4096x64, .f32⟩
  | 77 => ⟨S_, .f32⟩
  | 78 => ⟨S4096, .f32⟩
  | 79 => ⟨S4096x1, .f32⟩
  | 80 => ⟨S4096x64, .f32⟩
  | 81 => ⟨S4096x64, .f32⟩
  | 82 => ⟨S1x4096x64, .f32⟩
  | 83 => ⟨S_, .i32⟩
  | 84 => ⟨S_, .i32⟩
  | 85 => ⟨S384x4096x64, .f32⟩
  | 86 => ⟨S1x4096x64, .f32⟩
  | 87 => ⟨S_, .i32⟩
  | 88 => ⟨S_, .i32⟩
  | 89 => ⟨S384x4096x64, .f32⟩
  | 90 => ⟨S_, .i32⟩
  | 91 => ⟨S_, .i32⟩
  | 92 => ⟨S4096, .i32⟩
  | 93 => ⟨S_, .i32⟩
  | 94 => ⟨S4096, .i32⟩
  | 95 => ⟨S_, .f32⟩
  | 96 => ⟨S384x4096, .f32⟩
  | 97 => ⟨S_, .i32⟩
  | 98 => ⟨S384x4096x64, .f32⟩
  | 99 => ⟨S4096, .i32⟩
  | 100 => ⟨S_, .i32⟩
  | 101 => ⟨S4096, .i32⟩
  | 102 => ⟨S384x4096, .f32⟩
  | 103 => ⟨S_, .i32⟩
  | 104 => ⟨S_, .i1⟩
  | 105 => ⟨S_, .i32⟩
  | 106 => ⟨S_, .i32⟩
  | 107 => ⟨S_, .i32⟩
  | 108 => ⟨S_, .i32⟩
  | 109 => ⟨S_, .i32⟩
  | 110 => ⟨S_, .i32⟩
  | 111 => ⟨S1x4096x64, .f32⟩
  | 112 => ⟨S4096x64, .f32⟩
  | 113 => ⟨S_, .i32⟩
  | 114 => ⟨S4096, .i32⟩
  | 115 => ⟨S4096, .i32⟩
  | 116 => ⟨S_, .i32⟩
  | 117 => ⟨S_, .i32⟩
  | 118 => ⟨S_, .i32⟩
  | 119 => ⟨S_, .i1⟩
  | 120 => ⟨S_, .i32⟩
  | 121 => ⟨S_, .i32⟩
  | 122 => ⟨S4096, .i32⟩
  | 123 => ⟨S4096, .i32⟩
  | 124 => ⟨S_, .i32⟩
  | 125 => ⟨S4096, .i32⟩
  | 126 => ⟨S4096, .i1⟩
  | 127 => ⟨S_, .i32⟩
  | _ => ⟨S4096x256, .f32⟩

abbrev hbmTy0_1 (i : Nat) : BufTy := match i % 128 with
  | 0 => ⟨S4096, .i32⟩
  | 1 => ⟨S4096, .i1⟩
  | 2 => ⟨S_, .i32⟩
  | 3 => ⟨S_, .i1⟩
  | 4 => ⟨S4096, .i1⟩
  | 5 => ⟨S4096, .i1⟩
  | 6 => ⟨S4096, .i1⟩
  | 7 => ⟨S4096, .i32⟩
  | 8 => ⟨S4096, .i32⟩
  | 9 => ⟨S4096, .i32⟩
  | 10 => ⟨S4096, .f32⟩
  | 11 => ⟨S_, .i32⟩
  | 12 => ⟨S4096, .i32⟩
  | 13 => ⟨S4096, .i1⟩
  | 14 => ⟨S_, .i32⟩
  | 15 => ⟨S4096, .i32⟩
  | 16 => ⟨S4096, .i32⟩
  | 17 => ⟨S4096, .i32⟩
  | 18 => ⟨S_, .i32⟩
  | 19 => ⟨S4096, .i32⟩
  | 20 => ⟨S4096, .i1⟩
  | 21 => ⟨S_, .i32⟩
  | 22 => ⟨S4096, .i32⟩
  | 23 => ⟨S4096, .i32⟩
  | 24 => ⟨S4096, .i32⟩
  | 25 => ⟨S4096x1, .i32⟩
  | 26 => ⟨S4096x1, .i32⟩
  | 27 => ⟨S4096x2, .i32⟩
  | 28 => ⟨S4096, .f32⟩
  | 29 => ⟨S4096, .i32⟩
  | 30 => ⟨S1x4096, .f32⟩
  | 31 => ⟨S_, .i32⟩
  | 32 => ⟨S384x4096, .f32⟩
  | 33 => ⟨S_, .i32⟩
  | 34 => ⟨S_, .i32⟩
  | 35 => ⟨S4096x384, .f32⟩
  | 36 => ⟨S4096x128, .f32⟩
  | _ => ⟨S4096x256, .f32⟩

abbrev hbmTy (i : Nat) : BufTy := match i / 128 with
  | 0 => hbmTy0_0 i
  | 1 => hbmTy0_1 i
  | _ => ⟨S4096x256, .f32⟩

abbrev bufTy : (tb : Table) → Fin (tcTables nBuf tb) → BufTy
  | .hbm, ⟨i, _⟩ => hbmTy i
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_c_1 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_cst_4 : Ref sig .tc := ⟨.hbm, 21, rfl⟩
abbrev main_v9 : Ref sig .tc := ⟨.hbm, 22, rfl⟩
abbrev main_c_5 : Ref sig .tc := ⟨.hbm, 23, rfl⟩
abbrev main_v10_0 : Ref sig .tc := ⟨.hbm, 24, rfl⟩
abbrev main_v10_1 : Ref sig .tc := ⟨.hbm, 25, rfl⟩
abbrev main_v10_2 : Ref sig .tc := ⟨.hbm, 26, rfl⟩
abbrev main_v10_3 : Ref sig .tc := ⟨.hbm, 27, rfl⟩
abbrev main_v10_4 : Ref sig .tc := ⟨.hbm, 28, rfl⟩
abbrev main_v10_5 : Ref sig .tc := ⟨.hbm, 29, rfl⟩
abbrev main_v10_6 : Ref sig .tc := ⟨.hbm, 30, rfl⟩
abbrev main_v10_7 : Ref sig .tc := ⟨.hbm, 31, rfl⟩
abbrev main_while0c_c_16 : Ref sig .tc := ⟨.hbm, 32, rfl⟩
abbrev main_while0c_v17 : Ref sig .tc := ⟨.hbm, 33, rfl⟩
abbrev main_while0b_call1_c : Ref sig .tc := ⟨.hbm, 34, rfl⟩
abbrev main_while0b_call1_c_0 : Ref sig .tc := ⟨.hbm, 35, rfl⟩
abbrev main_while0b_call1_v0 : Ref sig .tc := ⟨.hbm, 36, rfl⟩
abbrev main_while0b_v17 : Ref sig .tc := ⟨.hbm, 37, rfl⟩
abbrev main_while0b_v18 : Ref sig .tc := ⟨.hbm, 38, rfl⟩
abbrev main_while0b_c_16 : Ref sig .tc := ⟨.hbm, 39, rfl⟩
abbrev main_while0b_v19 : Ref sig .tc := ⟨.hbm, 40, rfl⟩
abbrev main_while0b_v20 : Ref sig .tc := ⟨.hbm, 41, rfl⟩
abbrev main_while0b_c_17 : Ref sig .tc := ⟨.hbm, 42, rfl⟩
abbrev main_while0b_v21 : Ref sig .tc := ⟨.hbm, 43, rfl⟩
abbrev main_while0b_v22 : Ref sig .tc := ⟨.hbm, 44, rfl⟩
abbrev main_while0b_v23 : Ref sig .tc := ⟨.hbm, 45, rfl⟩
abbrev main_while0b_v24 : Ref sig .tc := ⟨.hbm, 46, rfl⟩
abbrev main_while0b_v25 : Ref sig .tc := ⟨.hbm, 47, rfl⟩
abbrev main_while0b_v26 : Ref sig .tc := ⟨.hbm, 48, rfl⟩
abbrev main_while0b_cst_18 : Ref sig .tc := ⟨.hbm, 49, rfl⟩
abbrev main_while0b_v27 : Ref sig .tc := ⟨.hbm, 50, rfl⟩
abbrev main_while0b_call2_v0 : Ref sig .tc := ⟨.hbm, 51, rfl⟩
abbrev main_while0b_call2_cst : Ref sig .tc := ⟨.hbm, 52, rfl⟩
abbrev main_while0b_call2_c : Ref sig .tc := ⟨.hbm, 53, rfl⟩
abbrev main_while0b_call2_v1_0 : Ref sig .tc := ⟨.hbm, 54, rfl⟩
abbrev main_while0b_v28 : Ref sig .tc := ⟨.hbm, 55, rfl⟩
abbrev main_while0b_v29 : Ref sig .tc := ⟨.hbm, 56, rfl⟩
abbrev main_while0b_c_19 : Ref sig .tc := ⟨.hbm, 57, rfl⟩
abbrev main_while0b_v30 : Ref sig .tc := ⟨.hbm, 58, rfl⟩
abbrev main_while0b_v31 : Ref sig .tc := ⟨.hbm, 59, rfl⟩
abbrev main_while0b_c_20 : Ref sig .tc := ⟨.hbm, 60, rfl⟩
abbrev main_while0b_v32 : Ref sig .tc := ⟨.hbm, 61, rfl⟩
abbrev main_while0b_v33 : Ref sig .tc := ⟨.hbm, 62, rfl⟩
abbrev main_while0b_v34 : Ref sig .tc := ⟨.hbm, 63, rfl⟩
abbrev main_while0b_c_21 : Ref sig .tc := ⟨.hbm, 64, rfl⟩
abbrev main_while0b_v35 : Ref sig .tc := ⟨.hbm, 65, rfl⟩
abbrev main_while0b_v36 : Ref sig .tc := ⟨.hbm, 66, rfl⟩
abbrev main_while0b_c_22 : Ref sig .tc := ⟨.hbm, 67, rfl⟩
abbrev main_while0b_v37 : Ref sig .tc := ⟨.hbm, 68, rfl⟩
abbrev main_while0b_v38 : Ref sig .tc := ⟨.hbm, 69, rfl⟩
abbrev main_while0b_v39 : Ref sig .tc := ⟨.hbm, 70, rfl⟩
abbrev main_while0b_v40 : Ref sig .tc := ⟨.hbm, 71, rfl⟩
abbrev main_while0b_v41 : Ref sig .tc := ⟨.hbm, 72, rfl⟩
abbrev main_while0b_v42 : Ref sig .tc := ⟨.hbm, 73, rfl⟩
abbrev main_while0b_v43 : Ref sig .tc := ⟨.hbm, 74, rfl⟩
abbrev main_while0b_v44 : Ref sig .tc := ⟨.hbm, 75, rfl⟩
abbrev main_while0b_v45 : Ref sig .tc := ⟨.hbm, 76, rfl⟩
abbrev main_while0b_cst_23 : Ref sig .tc := ⟨.hbm, 77, rfl⟩
abbrev main_while0b_v46 : Ref sig .tc := ⟨.hbm, 78, rfl⟩
abbrev main_while0b_v47 : Ref sig .tc := ⟨.hbm, 79, rfl⟩
abbrev main_while0b_v48 : Ref sig .tc := ⟨.hbm, 80, rfl⟩
abbrev main_while0b_v49 : Ref sig .tc := ⟨.hbm, 81, rfl⟩
abbrev main_while0b_call3_v0 : Ref sig .tc := ⟨.hbm, 82, rfl⟩
abbrev main_while0b_call3_c : Ref sig .tc := ⟨.hbm, 83, rfl⟩
abbrev main_while0b_call3_c_0 : Ref sig .tc := ⟨.hbm, 84, rfl⟩
abbrev main_while0b_v50 : Ref sig .tc := ⟨.hbm, 85, rfl⟩
abbrev main_while0b_call4_v0 : Ref sig .tc := ⟨.hbm, 86, rfl⟩
abbrev main_while0b_call4_c : Ref sig .tc := ⟨.hbm, 87, rfl⟩
abbrev main_while0b_call4_c_0 : Ref sig .tc := ⟨.hbm, 88, rfl⟩
abbrev main_while0b_v51 : Ref sig .tc := ⟨.hbm, 89, rfl⟩
abbrev main_while0b_c_24 : Ref sig .tc := ⟨.hbm, 90, rfl⟩
abbrev main_while0b_v52 : Ref sig .tc := ⟨.hbm, 91, rfl⟩
abbrev main_v11 : Ref sig .tc := ⟨.hbm, 92, rfl⟩
abbrev main_c_6 : Ref sig .tc := ⟨.hbm, 93, rfl⟩
abbrev main_v12 : Ref sig .tc := ⟨.hbm, 94, rfl⟩
abbrev main_cst_7 : Ref sig .tc := ⟨.hbm, 95, rfl⟩
abbrev main_v13 : Ref sig .tc := ⟨.hbm, 96, rfl⟩
abbrev main_c_8 : Ref sig .tc := ⟨.hbm, 97, rfl⟩
abbrev main_v14_0 : Ref sig .tc := ⟨.hbm, 98, rfl⟩
abbrev main_v14_1 : Ref sig .tc := ⟨.hbm, 99, rfl⟩
abbrev main_v14_2 : Ref sig .tc := ⟨.hbm, 100, rfl⟩
abbrev main_v14_3 : Ref sig .tc := ⟨.hbm, 101, rfl⟩
abbrev main_v14_4 : Ref sig .tc := ⟨.hbm, 102, rfl⟩
abbrev main_while1c_c_13 : Ref sig .tc := ⟨.hbm, 103, rfl⟩
abbrev main_while1c_v17 : Ref sig .tc := ⟨.hbm, 104, rfl⟩
abbrev main_while1b_c_13 : Ref sig .tc := ⟨.hbm, 105, rfl⟩
abbrev main_while1b_v17 : Ref sig .tc := ⟨.hbm, 106, rfl⟩
abbrev main_while1b_c_14 : Ref sig .tc := ⟨.hbm, 107, rfl⟩
abbrev main_while1b_v18 : Ref sig .tc := ⟨.hbm, 108, rfl⟩
abbrev main_while1b_call5_c : Ref sig .tc := ⟨.hbm, 109, rfl⟩
abbrev main_while1b_call5_c_0 : Ref sig .tc := ⟨.hbm, 110, rfl⟩
abbrev main_while1b_call5_v0 : Ref sig .tc := ⟨.hbm, 111, rfl⟩
abbrev main_while1b_v19 : Ref sig .tc := ⟨.hbm, 112, rfl⟩
abbrev main_while1b_c_15 : Ref sig .tc := ⟨.hbm, 113, rfl⟩
abbrev main_while1b_v20 : Ref sig .tc := ⟨.hbm, 114, rfl⟩
abbrev main_while1b_v21 : Ref sig .tc := ⟨.hbm, 115, rfl⟩
abbrev main_while1b_c_16 : Ref sig .tc := ⟨.hbm, 116, rfl⟩
abbrev main_while1b_call6_v0 : Ref sig .tc := ⟨.hbm, 117, rfl⟩
abbrev main_while1b_call6_c : Ref sig .tc := ⟨.hbm, 118, rfl⟩
abbrev main_while1b_call6_v1 : Ref sig .tc := ⟨.hbm, 119, rfl⟩
abbrev main_while1b_call6_c_0 : Ref sig .tc := ⟨.hbm, 120, rfl⟩
abbrev main_while1b_call6_v2 : Ref sig .tc := ⟨.hbm, 121, rfl⟩
abbrev main_while1b_call6_v3 : Ref sig .tc := ⟨.hbm, 122, rfl⟩
abbrev main_while1b_call6_v4 : Ref sig .tc := ⟨.hbm, 123, rfl⟩
abbrev main_while1b_call6_c_1 : Ref sig .tc := ⟨.hbm, 124, rfl⟩
abbrev main_while1b_call6_v5 : Ref sig .tc := ⟨.hbm, 125, rfl⟩
abbrev main_while1b_call6_v6 : Ref sig .tc := ⟨.hbm, 126, rfl⟩
abbrev main_while1b_call6_c_2 : Ref sig .tc := ⟨.hbm, 127, rfl⟩
abbrev main_while1b_call6_v7 : Ref sig .tc := ⟨.hbm, 128, rfl⟩
abbrev main_while1b_call6_v8 : Ref sig .tc := ⟨.hbm, 129, rfl⟩
abbrev main_while1b_call6_c_3 : Ref sig .tc := ⟨.hbm, 130, rfl⟩
abbrev main_while1b_call6_v9 : Ref sig .tc := ⟨.hbm, 131, rfl⟩
abbrev main_while1b_call6_v10 : Ref sig .tc := ⟨.hbm, 132, rfl⟩
abbrev main_while1b_call6_v11 : Ref sig .tc := ⟨.hbm, 133, rfl⟩
abbrev main_while1b_call6_v12 : Ref sig .tc := ⟨.hbm, 134, rfl⟩
abbrev main_while1b_call6_v13 : Ref sig .tc := ⟨.hbm, 135, rfl⟩
abbrev main_while1b_call6_v14 : Ref sig .tc := ⟨.hbm, 136, rfl⟩
abbrev main_while1b_v22 : Ref sig .tc := ⟨.hbm, 137, rfl⟩
abbrev main_while1b_v23 : Ref sig .tc := ⟨.hbm, 138, rfl⟩
abbrev main_while1b_c_17 : Ref sig .tc := ⟨.hbm, 139, rfl⟩
abbrev main_while1b_v24 : Ref sig .tc := ⟨.hbm, 140, rfl⟩
abbrev main_while1b_v25 : Ref sig .tc := ⟨.hbm, 141, rfl⟩
abbrev main_while1b_c_18 : Ref sig .tc := ⟨.hbm, 142, rfl⟩
abbrev main_while1b_v26 : Ref sig .tc := ⟨.hbm, 143, rfl⟩
abbrev main_while1b_v27 : Ref sig .tc := ⟨.hbm, 144, rfl⟩
abbrev main_while1b_v28 : Ref sig .tc := ⟨.hbm, 145, rfl⟩
abbrev main_while1b_c_19 : Ref sig .tc := ⟨.hbm, 146, rfl⟩
abbrev main_while1b_v29 : Ref sig .tc := ⟨.hbm, 147, rfl⟩
abbrev main_while1b_v30 : Ref sig .tc := ⟨.hbm, 148, rfl⟩
abbrev main_while1b_c_20 : Ref sig .tc := ⟨.hbm, 149, rfl⟩
abbrev main_while1b_v31 : Ref sig .tc := ⟨.hbm, 150, rfl⟩
abbrev main_while1b_v32 : Ref sig .tc := ⟨.hbm, 151, rfl⟩
abbrev main_while1b_v33 : Ref sig .tc := ⟨.hbm, 152, rfl⟩
abbrev main_while1b_v34 : Ref sig .tc := ⟨.hbm, 153, rfl⟩
abbrev main_while1b_v35 : Ref sig .tc := ⟨.hbm, 154, rfl⟩
abbrev main_while1b_v36 : Ref sig .tc := ⟨.hbm, 155, rfl⟩
abbrev main_while1b_v37 : Ref sig .tc := ⟨.hbm, 156, rfl⟩
abbrev main_while1b_v38 : Ref sig .tc := ⟨.hbm, 157, rfl⟩
abbrev main_while1b_call7_v0 : Ref sig .tc := ⟨.hbm, 158, rfl⟩
abbrev main_while1b_call7_c : Ref sig .tc := ⟨.hbm, 159, rfl⟩
abbrev main_while1b_v39 : Ref sig .tc := ⟨.hbm, 160, rfl⟩
abbrev main_while1b_c_21 : Ref sig .tc := ⟨.hbm, 161, rfl⟩
abbrev main_while1b_v40 : Ref sig .tc := ⟨.hbm, 162, rfl⟩
abbrev main_v15 : Ref sig .tc := ⟨.hbm, 163, rfl⟩
abbrev main_v16 : Ref sig .tc := ⟨.hbm, 164, rfl⟩

abbrev nD : Nat := 1
abbrev τ : Topo := Topo.v7x

variable {F : FTy → Type} [FloatOps F]

abbrev main_while0_count : Scf.Loop 32 := ⟨0#32, 384#32, 1#32⟩

abbrev main_while1_count : Scf.Loop 32 := ⟨0#32, 384#32, 1#32⟩
-- ==== Proof.PI.Back.lean ====
/-
  The walk backwards over the stored decisions: the kernel's third counted loop. One trip reads one block of packed
  decisions, walks its steps from the last to the first, and stores up to three groups of eight decoded bits.
-/
module

public import proofs.«01_k».proof.Proof.Gen.KernelIdeal.Loops
public import Idealize.ShloMosaic.Lib.WritesUnit
public import Idealize.ShloMosaic.Lib.ValueIdxCore

@[expose] public section

set_option maxRecDepth 8192
set_option maxHeartbeats 4000000

noncomputable section

namespace Cert.KernelIdeal.Back

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-! ### Which trips store, and where -/

/-- The last group of a trip's three is stored from trip 6 on, -/
theorem cond1_iff : ∀ k : Fin k0_t3_loop.trips, k0_cond1 k = 1#1 ↔ 6 ≤ k.val := by decide +kernel
/-- the middle one from trip 5 on, -/
theorem cond2_iff : ∀ k : Fin k0_t3_loop.trips, k0_cond2 k = 1#1 ↔ 5 ≤ k.val := by decide +kernel
/-- the first one in trips 5 to 9. -/
theorem cond3_iff : ∀ k : Fin k0_t3_loop.trips, k0_cond3 k = 1#1 ↔ 5 ≤ k.val ∧ k.val ≤ 9 := by decide +kernel

theorem off5_eq : ∀ k : Fin k0_t3_loop.trips, k0_cond1 k = 1#1 → k0_off5 k = ![31 - 3 * k.val, 0, 0] := by decide +kernel
theorem off6_eq : ∀ k : Fin k0_t3_loop.trips, k0_cond2 k = 1#1 → k0_off6 k = ![30 - 3 * k.val, 0, 0] := by decide +kernel
theorem off7_eq : ∀ k : Fin k0_t3_loop.trips, k0_cond3 k = 1#1 → k0_off7 k = ![29 - 3 * k.val, 0, 0] := by decide +kernel

instance {k : Fin k0_t3_loop.trips} [h : Fact (k0_cond1 k = 1#1)] : ClosedOff (k0_off5 k) := ⟨![31 - 3 * k.val, 0, 0], off5_eq k h.out⟩
instance {k : Fin k0_t3_loop.trips} [h : Fact (k0_cond2 k = 1#1)] : ClosedOff (k0_off6 k) := ⟨![30 - 3 * k.val, 0, 0], off6_eq k h.out⟩
instance {k : Fin k0_t3_loop.trips} [h : Fact (k0_cond3 k = 1#1)] : ClosedOff (k0_off7 k) := ⟨![29 - 3 * k.val, 0, 0], off7_eq k h.out⟩

/-- A piece stored under a condition, as a list: the piece, or none. -/
def when {α : Type} {p : Prop} [Decidable p] (f : p → α) : List α := if h : p then [f h] else []

theorem when_pos {α : Type} {p : Prop} [Decidable p] (f : p → α) (h : p) : when f = [f h] := dif_pos h
theorem when_neg {α : Type} {p : Prop} [Decidable p] (f : p → α) (h : ¬p) : when f = [] := dif_neg h

/-- What a trip holds: the packed decisions at their contents, the output buffer at any. -/
abbrev Trip (c : Dev nD) (arg5 : Memref sig .tc .vmem S16x8x4096 .f32) (arg6 : Memref sig .tc .vmem S11x48x4096 .i32) (X : BufTy.Contents (Elt F) arg6.view.ty) (f : BufTy.Contents (Elt F) arg5.view.ty) : sProp 𝕄G :=
  iprop((arg6.view.loc (c : Thread nD τ) ↦[arg6.view.set]{fullShare} X) ∗ (arg5.view.loc (c : Thread nD τ) ↦[arg5.view.set]{fullShare} f))

abbrev Grp (F : FTy → Type) := IVec S1x4096 32 → Vec F S1x8x4096 .f32

/-- The pieces a trip stores, last first, from the three groups' values. -/
def pieces (k : Fin k0_t3_loop.trips) (P1 P2 P3 : Grp F) (acc : IVec S1x4096 32) : List (View.Piece (Elt F) S16x8x4096 .f32) :=
  when (fun h : k0_cond3 k = 1#1 => (⟨Rect.unit (s := S16x8x4096) (k0_off7 k) S1x8x4096.size (k0_off7_inb k h), P3 acc⟩ : View.Piece (Elt F) S16x8x4096 .f32))
  ++ when (fun h : k0_cond2 k = 1#1 => (⟨Rect.unit (s := S16x8x4096) (k0_off6 k) S1x8x4096.size (k0_off6_inb k h), P2 acc⟩ : View.Piece (Elt F) S16x8x4096 .f32))
  ++ when (fun h : k0_cond1 k = 1#1 => (⟨Rect.unit (s := S16x8x4096) (k0_off5 k) S1x8x4096.size (k0_off5_inb k h), P1 acc⟩ : View.Piece (Elt F) S16x8x4096 .f32))

/-! ### What the pieces leave in the output buffer -/

/-- The position inside its group of an index of the output buffer. -/
def inGrp (y : S16x8x4096.Idx) : S1x8x4096.Idx := ix3 (0 : Fin 1) (y 1 : Fin 8) (y 2 : Fin 4096)

/-- The group stored for row `r`: rows 2, 5, … are first groups, rows 0, 3, … middle ones, rows 1, 4, … last ones. -/
def pick (P1 P2 P3 : Grp F) (acc : IVec S1x4096 32) (r : ℕ) : Vec F S1x8x4096 .f32 :=
  if r % 3 = 2 then P3 acc else if r % 3 = 0 then P2 acc else P1 acc

/-- One trip's pieces over anything: a row reads the trip's group when it is one of the trip's rows, else what was
    there. -/
theorem read_pieces (v : View sig .tc .vmem S16x8x4096 .f32) (f : v.ty.Contents (Elt F)) (k : Fin k0_t3_loop.trips) (P1 P2 P3 : Grp F)
    (acc : IVec S1x4096 32) (L : List (View.Piece (Elt F) S16x8x4096 .f32)) (y : S16x8x4096.Idx) :
    v.read (Elt F) (v.writes (Elt F) f (pieces k P1 P2 P3 acc ++ L)) y
      = if (31 - (y 0 : Fin 16).val) / 3 = k.val then pick P1 P2 P3 acc (y 0 : Fin 16).val (inGrp y) else v.read (Elt F) (v.writes (Elt F) f L) y := by
  have hy : (y 0 : Fin 16).val < 16 := (y 0 : Fin 16).isLt
  have hy' : (y 0).val = (y 0 : Fin 16).val := rfl
  have hk : k.val < 11 := Nat.lt_of_lt_of_le k.isLt k0_t3_abs.2.1
  have key : ∀ (c : ℕ) (off : Fin 3 → ℕ) (inb : ∀ a, off a + S1x8x4096.size a ≤ S16x8x4096.size a) (w : Vec F S1x8x4096 .f32)
      (L : List (View.Piece (Elt F) S16x8x4096 .f32)), off = ![c, 0, 0] →
      v.read (Elt F) (v.writes (Elt F) f ((⟨Rect.unit (s := S16x8x4096) off S1x8x4096.size inb, w⟩ : View.Piece (Elt F) S16x8x4096 .f32) :: L)) y
        = if (y 0 : Fin 16).val = c then w (inGrp y) else v.read (Elt F) (v.writes (Elt F) f L) y := by
    intro c off inb w L h
    split
    · next hc =>
      exact View.read_writes_cons_unit_of_mem v f inb w L y (inGrp y) h (by
        intro a; fin_cases a
        · show (y 0).val = c + 0; omega
        · show (y 1).val = 0 + (y 1).val; omega
        · show (y 2).val = 0 + (y 2).val; omega)
    · next hc =>
      refine View.read_writes_cons_unit_of_not_mem v f inb w L y h 0 ?_
      show (y 0).val < c ∨ c + 1 ≤ (y 0).val
      omega
  have h1 := cond1_iff k
  have h2 := cond2_iff k
  have h3 := cond3_iff k
  unfold pieces pick
  by_cases c1 : k0_cond1 k = 1#1
  · have c2 : k0_cond2 k = 1#1 := h2.2 (by have := h1.1 c1; omega)
    have k6 := h1.1 c1
    by_cases c3 : k0_cond3 k = 1#1
    · have k9 := h3.1 c3
      rw [when_pos _ c1, when_pos _ c2, when_pos _ c3]
      simp only [List.cons_append, List.nil_append]
      rw [key _ _ _ _ _ (off7_eq k c3), key _ _ _ _ _ (off6_eq k c2), key _ _ _ _ _ (off5_eq k c1)]
      split_ifs <;> first | rfl | omega
    · have k9 := h3.not.1 c3
      rw [when_pos _ c1, when_pos _ c2, when_neg _ c3]
      simp only [List.cons_append, List.nil_append]
      rw [key _ _ _ _ _ (off6_eq k c2), key _ _ _ _ _ (off5_eq k c1)]
      split_ifs <;> first | rfl | omega
  · have k6 := h1.not.1 c1
    by_cases c2 : k0_cond2 k = 1#1
    · have k5 := h2.1 c2
      have c3 : k0_cond3 k = 1#1 := h3.2 (by omega)
      rw [when_neg _ c1, when_pos _ c2, when_pos _ c3]
      simp only [List.cons_append, List.nil_append, List.append_nil]
      rw [key _ _ _ _ _ (off7_eq k c3), key _ _ _ _ _ (off6_eq k c2)]
      split_ifs <;> first | rfl | omega
    · have k5 := h2.not.1 c2
      have c3 : ¬k0_cond3 k = 1#1 := fun h => c2 (h2.2 (h3.1 h).1)
      rw [when_neg _ c1, when_neg _ c2, when_neg _ c3]
      simp only [List.nil_append, List.append_nil]
      split_ifs <;> first | rfl | omega

/-- ONE TRIP at a symbolic trip number and carried state: the state it yields and the three groups' values are what
    the run finds. -/
@[irreducible] def trip (𝒱 : Variants) (c : Dev nD) (bd : Option 𝒱.V) (i : grid0.Coords) (arg1 : Memref sig .tc .vmem S16x8x4096 .f32) (harg1 : arg1.IsWhole) (arg2 : Memref sig .tc .vmem S16x8x4096 .f32) (harg2 : arg2.IsWhole) (arg3 : Memref sig .tc .vmem S192x2 .bf16) (harg3 : arg3.IsWhole) (arg4 : Memref sig .tc .vmem S12x64 .bf16) (harg4 : arg4.IsWhole) (arg5 : Memref sig .tc .vmem S16x8x4096 .f32) (harg5 : arg5.IsWhole) (arg6 : Memref sig .tc .vmem S11x48x4096 .i32) (harg6 : arg6.IsWhole) (X : BufTy.Contents (Elt F) arg6.view.ty) (k : Fin k0_t3_loop.trips) :
    Σ' (R : IVec S1x4096 32 → IVec S1x4096 32) (P1 P2 : Grp F), { P3 : Grp F // ∀ (E : Set ℕ) (acc : IVec S1x4096 32) (f : BufTy.Contents (Elt F) arg5.view.ty),
      Trip (F := F) c arg5 arg6 X f
      ⊢ wp frame (wpE (defs₀ (F := F)) 𝒱 (c : Thread nD τ) bd) E (k0_t3_body (F := F) i arg1 harg1 arg2 harg2 arg3 harg3 arg4 harg4 arg5 harg5 arg6 harg6 k acc)
          (fun yld => iprop(⌜yld = R acc⌝ ∗ Trip (F := F) c arg5 arg6 X (arg5.view.writes (Elt F) f (pieces k P1 P2 P3 acc)))) } := by
  have hk : k.val < 11 := Nat.lt_of_lt_of_le k.isLt k0_t3_abs.2.1
  refine ⟨?_, ?_, ?_, ?_, fun E acc f => ?run⟩
  case run =>
    unfold k0_t3_body
    by_cases h1 : k0_cond1 k = 1#1
    · have h2 : k0_cond2 k = 1#1 := (cond2_iff k).2 (by have := (cond1_iff k).1 h1; omega)
      haveI := Fact.mk h1
      haveI := Fact.mk h2
      by_cases h3 : k0_cond3 k = 1#1
      · haveI := Fact.mk h3
        have h13 := (cond3_iff k).1 h3
        simp only [pieces, when_pos _ h1, when_pos _ h2, when_pos _ h3, List.cons_append, List.nil_append]
        iintro ⟨HR, HW⟩
        sl_exec
        sl_step
        sl_close
      · simp only [pieces, when_pos _ h1, when_pos _ h2, when_neg _ h3, List.cons_append, List.nil_append]
        iintro ⟨HR, HW⟩
        sl_exec
        sl_step
        sl_close
    · have hk6 : k.val < 6 := by have := (cond1_iff k).not.1 h1; omega
      by_cases h2 : k0_cond2 k = 1#1
      · have h3 : k0_cond3 k = 1#1 := (cond3_iff k).2 (by have := (cond2_iff k).1 h2; omega)
        have hk5 := (cond2_iff k).1 h2
        haveI := Fact.mk h2
        haveI := Fact.mk h3
        simp only [pieces, when_neg _ h1, when_pos _ h2, when_pos _ h3, List.cons_append, List.nil_append, List.append_nil]
        iintro ⟨HR, HW⟩
        sl_exec
        sl_step
        sl_close
      · have h3 : ¬k0_cond3 k = 1#1 := fun h => h2 ((cond2_iff k).2 ((cond3_iff k).1 h).1)
        simp only [pieces, when_neg _ h1, when_neg _ h2, when_neg _ h3, List.cons_append, List.nil_append]
        iintro ⟨HR, HW⟩
        sl_exec
        sl_step
        sl_close

section Walk

variable (𝒱 : Variants) (c : Dev nD) (bd : Option 𝒱.V) (i : grid0.Coords) (arg1 : Memref sig .tc .vmem S16x8x4096 .f32) (harg1 : arg1.IsWhole) (arg2 : Memref sig .tc .vmem S16x8x4096 .f32) (harg2 : arg2.IsWhole) (arg3 : Memref sig .tc .vmem S192x2 .bf16) (harg3 : arg3.IsWhole) (arg4 : Memref sig .tc .vmem S12x64 .bf16) (harg4 : arg4.IsWhole) (arg5 : Memref sig .tc .vmem S16x8x4096 .f32) (harg5 : arg5.IsWhole) (arg6 : Memref sig .tc .vmem S11x48x4096 .i32) (harg6 : arg6.IsWhole) (X : BufTy.Contents (Elt F) arg6.view.ty)

/-- The state a trip yields from the state it meets. -/
abbrev next (k : Fin k0_t3_loop.trips) (acc : IVec S1x4096 32) : IVec S1x4096 32 :=
  (trip (F := F) 𝒱 c bd i arg1 harg1 arg2 harg2 arg3 harg3 arg4 harg4 arg5 harg5 arg6 harg6 X k).1 acc

/-- The pieces a trip stores from the state it meets. -/
abbrev stored (k : Fin k0_t3_loop.trips) (acc : IVec S1x4096 32) : List (View.Piece (Elt F) S16x8x4096 .f32) :=
  pieces k (trip (F := F) 𝒱 c bd i arg1 harg1 arg2 harg2 arg3 harg3 arg4 harg4 arg5 harg5 arg6 harg6 X k).2.1
    (trip (F := F) 𝒱 c bd i arg1 harg1 arg2 harg2 arg3 harg3 arg4 harg4 arg5 harg5 arg6 harg6 X k).2.2.1
    (trip (F := F) 𝒱 c bd i arg1 harg1 arg2 harg2 arg3 harg3 arg4 harg4 arg5 harg5 arg6 harg6 X k).2.2.2.1 acc

/-- Trip `k`'s contribution to the state and the pieces so far; past the last trip, none. -/
@[irreducible] def walkStep (k : ℕ) (prev : IVec S1x4096 32 × List (View.Piece (Elt F) S16x8x4096 .f32)) :
    IVec S1x4096 32 × List (View.Piece (Elt F) S16x8x4096 .f32) :=
  if h : k < k0_t3_loop.trips then
    (next (F := F) 𝒱 c bd i arg1 harg1 arg2 harg2 arg3 harg3 arg4 harg4 arg5 harg5 arg6 harg6 X ⟨k, h⟩ prev.1,
      stored (F := F) 𝒱 c bd i arg1 harg1 arg2 harg2 arg3 harg3 arg4 harg4 arg5 harg5 arg6 harg6 X ⟨k, h⟩ prev.1 ++ prev.2)
  else prev

/-- The carried state before trip `k`, and the pieces of the trips before, last first. -/
def walk (init : IVec S1x4096 32) : ℕ → IVec S1x4096 32 × List (View.Piece (Elt F) S16x8x4096 .f32)
  | 0 => (init, [])
  | k + 1 => walkStep (F := F) 𝒱 c bd i arg1 harg1 arg2 harg2 arg3 harg3 arg4 harg4 arg5 harg5 arg6 harg6 X k (walk init k)

theorem walk_zero (init : IVec S1x4096 32) :
    walk (F := F) 𝒱 c bd i arg1 harg1 arg2 harg2 arg3 harg3 arg4 harg4 arg5 harg5 arg6 harg6 X init 0 = (init, []) := rfl

theorem walk_succ (init : IVec S1x4096 32) (k : Fin k0_t3_loop.trips) :
    walk (F := F) 𝒱 c bd i arg1 harg1 arg2 harg2 arg3 harg3 arg4 harg4 arg5 harg5 arg6 harg6 X init (k.val + 1)
      = (next (F := F) 𝒱 c bd i arg1 harg1 arg2 harg2 arg3 harg3 arg4 harg4 arg5 harg5 arg6 harg6 X k
            (walk (F := F) 𝒱 c bd i arg1 harg1 arg2 harg2 arg3 harg3 arg4 harg4 arg5 harg5 arg6 harg6 X init k.val).1,
          stored (F := F) 𝒱 c bd i arg1 harg1 arg2 harg2 arg3 harg3 arg4 harg4 arg5 harg5 arg6 harg6 X k
            (walk (F := F) 𝒱 c bd i arg1 harg1 arg2 harg2 arg3 harg3 arg4 harg4 arg5 harg5 arg6 harg6 X init k.val).1
          ++ (walk (F := F) 𝒱 c bd i arg1 harg1 arg2 harg2 arg3 harg3 arg4 harg4 arg5 harg5 arg6 harg6 X init k.val).2) := by
  rw [walk.eq_2]; unfold walkStep; exact dif_pos k.isLt

/-- THE INVARIANT before trip `k`: the decisions as they stand, the output buffer holding the pieces of the trips
    before over its contents at entry, the carried state the walk's. -/
abbrev walkInv (G : BufTy.Contents (Elt F) arg5.view.ty) (init : IVec S1x4096 32) (k : ℕ) (acc : IVec S1x4096 32) : sProp 𝕄G :=
  iprop((arg6.view.loc (c : Thread nD τ) ↦[arg6.view.set]{fullShare} X)
    ∗ (∃ f, (arg5.view.loc (c : Thread nD τ) ↦[arg5.view.set]{fullShare} f)
        ∗ ⌜f = arg5.view.writes (Elt F) G (walk (F := F) 𝒱 c bd i arg1 harg1 arg2 harg2 arg3 harg3 arg4 harg4 arg5 harg5 arg6 harg6 X init k).2⌝)
    ∗ ⌜acc = (walk (F := F) 𝒱 c bd i arg1 harg1 arg2 harg2 arg3 harg3 arg4 harg4 arg5 harg5 arg6 harg6 X init k).1⌝)

set_option warn.classDefReducibility false in
/-- The loop by its invariant. -/
@[sl_loop] def loopInv_k0_t3 (E : Set ℕ) (G : BufTy.Contents (Elt F) arg5.view.ty) (init : IVec S1x4096 32) :
    Gen.LoopInvTy_k0_t3 (F := F) Unit ℕ (UR sig nD τ) ℕ 𝒱 c bd E i arg1 harg1 arg2 harg2 arg3 harg3 arg4 harg4 arg5 harg5 arg6 harg6 init where
  inv := walkInv (F := F) 𝒱 c bd i arg1 harg1 arg2 harg2 arg3 harg3 arg4 harg4 arg5 harg5 arg6 harg6 X G init
  step k acc := by
    iintro ⟨HR, ⟨%f, HW, %hf⟩, %hacc⟩
    subst hacc
    iapply (wp_wand_r Idealize.ShloMosaic.frame (wpE (defs₀ (F := F)) 𝒱 (c : Thread nD τ) bd) E)
    isplitl [HR HW]
    · iapply ((trip (F := F) 𝒱 c bd i arg1 harg1 arg2 harg2 arg3 harg3 arg4 harg4 arg5 harg5 arg6 harg6 X k).2.2.2.2 E
        (walk (F := F) 𝒱 c bd i arg1 harg1 arg2 harg2 arg3 harg3 arg4 harg4 arg5 harg5 arg6 harg6 X init k.val).1 f)
      isplitl [HR]; · iexact HR
      iexact HW
    · iintro %yld ⟨%hres, HR, HW⟩
      isplitl [HR]; · iexact HR
      simp only [walk_succ]
      isplitl [HW]
      · iexists _; isplitl [HW]; · iexact HW
        ipureintro; rw [hf, ← View.writes_append]
      ipureintro; rw [hres]

/-! ### The output buffer after the walk -/

theorem row_trip (r : Fin 16) : (31 - r.val) / 3 < k0_t3_loop.trips := by
  have h : k0_t3_loop.trips = 11 := by decide
  have := r.isLt; omega

/-- The decoded bits the walk leaves: row by row the group of the trip that stores the row. -/
def bits (init : IVec S1x4096 32) : Vec F S16x8x4096 .f32 := fun y =>
  let T := trip (F := F) 𝒱 c bd i arg1 harg1 arg2 harg2 arg3 harg3 arg4 harg4 arg5 harg5 arg6 harg6 X ⟨(31 - (y 0 : Fin 16).val) / 3, row_trip (y 0)⟩
  pick T.2.1 T.2.2.1 T.2.2.2.1 (walk (F := F) 𝒱 c bd i arg1 harg1 arg2 harg2 arg3 harg3 arg4 harg4 arg5 harg5 arg6 harg6 X init ((31 - (y 0 : Fin 16).val) / 3)).1 (y 0 : Fin 16).val (inGrp y)

theorem read_walk (v : View sig .tc .vmem S16x8x4096 .f32) (f : v.ty.Contents (Elt F)) (init : IVec S1x4096 32) (y : S16x8x4096.Idx) :
    ∀ n, n ≤ k0_t3_loop.trips →
      v.read (Elt F) (v.writes (Elt F) f (walk (F := F) 𝒱 c bd i arg1 harg1 arg2 harg2 arg3 harg3 arg4 harg4 arg5 harg5 arg6 harg6 X init n).2) y
        = if (31 - (y 0 : Fin 16).val) / 3 < n then bits (F := F) 𝒱 c bd i arg1 harg1 arg2 harg2 arg3 harg3 arg4 harg4 arg5 harg5 arg6 harg6 X init y else v.read (Elt F) f y
  | 0, _ => by rw [walk_zero, if_neg (Nat.not_lt_zero _)]; rfl
  | n + 1, hn => by
    rw [show n + 1 = (⟨n, hn⟩ : Fin k0_t3_loop.trips).val + 1 from rfl, walk_succ]
    unfold stored
    rw [read_pieces, read_walk v f init y n (Nat.le_of_succ_le hn)]
    by_cases h : (31 - (y 0 : Fin 16).val) / 3 = n
    · rw [if_pos h, if_pos (show _ < n + 1 by omega)]
      unfold bits
      subst h
      rfl
    · rw [if_neg h]
      by_cases h' : (31 - (y 0 : Fin 16).val) / 3 < n
      · rw [if_pos h', if_pos (show _ < n + 1 by omega)]
      · rw [if_neg h', if_neg (show ¬_ < n + 1 by omega)]

/-- Whatever the output buffer held, after the whole walk it reads the decoded bits. -/
theorem read_walk_all (v : View sig .tc .vmem S16x8x4096 .f32) (f : v.ty.Contents (Elt F)) (init : IVec S1x4096 32) :
    v.read (Elt F) (v.writes (Elt F) f (walk (F := F) 𝒱 c bd i arg1 harg1 arg2 harg2 arg3 harg3 arg4 harg4 arg5 harg5 arg6 harg6 X init k0_t3_loop.trips).2) = bits (F := F) 𝒱 c bd i arg1 harg1 arg2 harg2 arg3 harg3 arg4 harg4 arg5 harg5 arg6 harg6 X init :=
  funext fun y => (read_walk (F := F) 𝒱 c bd i arg1 harg1 arg2 harg2 arg3 harg3 arg4 harg4 arg5 harg5 arg6 harg6 X v f init y _ le_rfl).trans (if_pos (row_trip (y 0)))

end Walk

end Cert.KernelIdeal.Back

end
-- ==== Proof.PI.Body.lean ====
/-
  The kernel's body on one device and the launch around it: from any memory with zero counters the program ends, with
  its argument as it was, every counter at zero, and the pipeline's arrays at what the body leaves in them.
-/
module

public import proofs.«01_k».proof.Proof.PI.Back
public import proofs.«01_k».proof.Proof.Gen.KernelIdeal.Frame
public import Idealize.ShloMosaic.Lib.Tactic
public import Idealize.ShloMosaic.Lib.Pipeline.ValueKit

@[expose] public section

set_option maxRecDepth 8192
set_option maxHeartbeats 4000000

noncomputable section

namespace Cert.KernelIdeal.Body

open Cert.KernelIdeal Cert.KernelIdeal.Gen Cert.KernelIdeal.Back
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

abbrev 𝒱₀ : Variants := Variants.none

/-! ### The packed decisions fill their buffer -/

section Filled

variable (𝒱 : Variants) (c : Dev nD) (bd : Option 𝒱.V) (i : grid0.Coords) (arg1 : Memref sig .tc .vmem S16x8x4096 .f32) (harg1 : arg1.IsWhole) (arg2 : Memref sig .tc .vmem S16x8x4096 .f32) (harg2 : arg2.IsWhole) (arg3 : Memref sig .tc .vmem S192x2 .bf16) (harg3 : arg3.IsWhole) (arg4 : Memref sig .tc .vmem S12x64 .bf16) (harg4 : arg4.IsWhole) (arg5 : Memref sig .tc .vmem S16x8x4096 .f32) (harg5 : arg5.IsWhole) (arg6 : Memref sig .tc .vmem S11x48x4096 .i32) (harg6 : arg6.IsWhole) (v0 : Vec F S192x2 .bf16) (v1 : Vec F S12x64 .bf16) (X_arg1 : BufTy.Contents (Elt F) arg1.view.ty) (X_arg2 : BufTy.Contents (Elt F) arg2.view.ty)

/-- A trip of the second loop stores one block of packed decisions: the block its trip number names. -/
theorem tripL_block (k : Fin k0_t2_loop.trips) (acc : FVec F S64x4096 .f32) :
    ∃ w, tripL_k0_t2 (F := F) 𝒱 c bd i arg1 harg1 arg2 harg2 arg3 harg3 arg4 harg4 arg5 harg5 arg6 harg6 v0 v1 X_arg1 X_arg2 k acc
      = [⟨Rect.unit (s := S11x48x4096) (k0_off3 k) S1x48x4096.size (k0_off3_inb k), w⟩] := by
  refine ⟨?_, ?_⟩
  rotate_left
  · unfold tripL_k0_t2 trip_k0_t2
    rfl

theorem trips2 : k0_t2_loop.trips = 11 := by decide

/-- After `n` trips every block below `n` has been stored: what it reads does not depend on what the buffer held. -/
theorem filled (init : FVec F S64x4096 .f32) (y : S11x48x4096.Idx) :
    ∀ n, n ≤ k0_t2_loop.trips → (y 0 : Fin 11).val < n →
      ∃ p ∈ (st_k0_t2 (F := F) 𝒱 c bd i arg1 harg1 arg2 harg2 arg3 harg3 arg4 harg4 arg5 harg5 arg6 harg6 v0 v1 X_arg1 X_arg2 init n).2, y ∈ p.1.set
  | 0, _, h => absurd h (Nat.not_lt_zero _)
  | n + 1, hn, h => by
    rw [show n + 1 = (⟨n, hn⟩ : Fin k0_t2_loop.trips).val + 1 from rfl, st_k0_t2_succ]
    by_cases hy : (y 0 : Fin 11).val < n
    · obtain ⟨p, hp, hm⟩ := filled init y n (Nat.le_of_succ_le hn) hy
      exact ⟨p, List.mem_append.2 (.inr hp), hm⟩
    · obtain ⟨w, hw⟩ := tripL_block (F := F) 𝒱 c bd i arg1 harg1 arg2 harg2 arg3 harg3 arg4 harg4 arg5 harg5 arg6 harg6 v0 v1 X_arg1 X_arg2 ⟨n, hn⟩ (st_k0_t2 (F := F) 𝒱 c bd i arg1 harg1 arg2 harg2 arg3 harg3 arg4 harg4 arg5 harg5 arg6 harg6 v0 v1 X_arg1 X_arg2 init n).1
      refine ⟨_, List.mem_append.2 (.inl (by rw [hw]; exact List.mem_singleton.2 rfl)), ?_⟩
      have hoff : k0_off3 (⟨n, hn⟩ : Fin k0_t2_loop.trips) = ![n, 0, 0] := k0_off3_eq _
      show y ∈ (Rect.unit (s := S11x48x4096) (k0_off3 ⟨n, hn⟩) S1x48x4096.size (k0_off3_inb _)).set
      rw [Rect.mem_set_unit]
      intro a
      rw [hoff]
      have e0 : (y 0).val = (y 0 : Fin 11).val := rfl
      fin_cases a
      · show n ≤ (y 0).val ∧ (y 0).val < n + 1
        omega
      · exact ⟨Nat.zero_le _, by show (y 1).val < 0 + 48; rw [Nat.zero_add]; exact (y 1).isLt⟩
      · exact ⟨Nat.zero_le _, by show (y 2).val < 0 + 4096; rw [Nat.zero_add]; exact (y 2).isLt⟩

/-- So the packed decisions, once all stored, are the same over any contents. -/
theorem filled_all (f g : BufTy.Contents (Elt F) arg6.view.ty) (init : FVec F S64x4096 .f32) :
    arg6.view.writes (Elt F) f (st_k0_t2 (F := F) 𝒱 c bd i arg1 harg1 arg2 harg2 arg3 harg3 arg4 harg4 arg5 harg5 arg6 harg6 v0 v1 X_arg1 X_arg2 init k0_t2_loop.trips).2
      = arg6.view.writes (Elt F) g (st_k0_t2 (F := F) 𝒱 c bd i arg1 harg1 arg2 harg2 arg3 harg3 arg4 harg4 arg5 harg5 arg6 harg6 v0 v1 X_arg1 X_arg2 init k0_t2_loop.trips).2 := by
  refine (harg6.eq_unread rfl).trans (harg6.eq_unread ?_).symm
  funext y
  exact View.read_writes_apply_eq _ _ _ _ y _ (filled (F := F) 𝒱 c bd i arg1 harg1 arg2 harg2 arg3 harg3 arg4 harg4 arg5 harg5 arg6 harg6 v0 v1 X_arg1 X_arg2 init y _ le_rfl (by rw [trips2]; exact (y 0 : Fin 11).isLt))

end Filled

/-! ### The body, on any staging memrefs -/

/-- The whole computation of the body from its four input blocks: the decoded bits. -/
def result (c : Dev nD) (i : grid0.Coords) (M1 : Memref sig .tc .vmem S16x8x4096 .f32) (h1 : M1.IsWhole) (M2 : Memref sig .tc .vmem S16x8x4096 .f32) (h2 : M2.IsWhole) (M3 : Memref sig .tc .vmem S192x2 .bf16) (h3 : M3.IsWhole) (M4 : Memref sig .tc .vmem S12x64 .bf16) (h4 : M4.IsWhole) (M5 : Memref sig .tc .vmem S16x8x4096 .f32) (h5 : M5.IsWhole) (M6 : Memref sig .tc .vmem S11x48x4096 .i32) (h6 : M6.IsWhole)
    (x1 x2 : Vec F S16x8x4096 .f32) (x3 : Vec F S192x2 .bf16) (x4 : Vec F S12x64 .bf16) : Vec F S16x8x4096 .f32 :=
  bits (F := F) 𝒱₀ c none i M1 h1 M2 h2 M3 h3 M4 h4 M5 h5 M6 h6
    (M6.view.writes (Elt F) M6.view.junk
      (st_k0_t2 (F := F) 𝒱₀ c none i M1 h1 M2 h2 M3 h3 M4 h4 M5 h5 M6 h6 x3 x4 (h1.unread x1) (h2.unread x2)
        (st_k0_t1 (F := F) 𝒱₀ c none i M1 h1 M2 h2 M3 h3 M4 h4 M5 h5 M6 h6 x3 (h1.unread x1) (h2.unread x2) k0_pay1 k0_t1_loop.trips)
        k0_t2_loop.trips).2)
    k0_pay4

theorem whole_load2 {n m : ℕ} {e : EltTy} (M : Memref sig .tc .vmem ⟨2, ![n, m]⟩ e) (h : M.IsWhole)
    (inb : ∀ a, (![0, 0] : Fin 2 → ℕ) a + (⟨2, ![n, m]⟩ : Shape).size a ≤ (⟨2, ![n, m]⟩ : Shape).size a) (x : (⟨2, ![n, m]⟩ : Shape).Idx → Elt F e) :
    M.view.readAt (Elt F) (Rect.unit (s := ⟨2, ![n, m]⟩) ![0, 0] (⟨2, ![n, m]⟩ : Shape).size inb).toLoadRect (h.unread x) = x := by
  rw [View.readAt_eq_ld, h.read_unread]
  exact (View.ld_unit_zero (S := ⟨2, ![n, m]⟩) (by funext a; fin_cases a <;> rfl) inb x)

theorem body_run (c : Dev nD) (i : grid0.Coords) (M1 : Memref sig .tc .vmem S16x8x4096 .f32) (h1 : M1.IsWhole) (M2 : Memref sig .tc .vmem S16x8x4096 .f32) (h2 : M2.IsWhole) (M3 : Memref sig .tc .vmem S192x2 .bf16) (h3 : M3.IsWhole) (M4 : Memref sig .tc .vmem S12x64 .bf16) (h4 : M4.IsWhole) (M5 : Memref sig .tc .vmem S16x8x4096 .f32) (h5 : M5.IsWhole) (M6 : Memref sig .tc .vmem S11x48x4096 .i32) (h6 : M6.IsWhole)
    (x1 x2 : Vec F S16x8x4096 .f32) (x3 : Vec F S192x2 .bf16) (x4 : Vec F S12x64 .bf16) (E : Set ℕ) (K : PUnit → sProp 𝕄) :
    iprop(owns (c : Thread nD τ) M1 fullShare x1 ∗ owns (c : Thread nD τ) M2 fullShare x2 ∗ owns (c : Thread nD τ) M3 fullShare x3 ∗ owns (c : Thread nD τ) M4 fullShare x4
        ∗ (∃ d, owns (c : Thread nD τ) M5 fullShare d) ∗ (∃ d, owns (c : Thread nD τ) M6 fullShare d)
        ∗ (iprop(owns (c : Thread nD τ) M1 fullShare x1 ∗ owns (c : Thread nD τ) M2 fullShare x2 ∗ owns (c : Thread nD τ) M3 fullShare x3 ∗ owns (c : Thread nD τ) M4 fullShare x4
            ∗ owns (c : Thread nD τ) M5 fullShare (result c i M1 h1 M2 h2 M3 h3 M4 h4 M5 h5 M6 h6 x1 x2 x3 x4)
            ∗ (∃ d, owns (c : Thread nD τ) M6 fullShare d)) -∗ K ⟨⟩))
      ⊢ wp frame (wpE (defs₀ (F := F)) 𝒱₀ c none) E (cc0__viterbi_body (F := F) i M1 h1 M2 h2 M3 h3 M4 h4 M5 h5 M6 h6) K := by
  unfold owns
  iintro ⟨⟨%f1, %e1, H1⟩, ⟨%f2, %e2, H2⟩, ⟨%f3, %e3, H3⟩, ⟨%f4, %e4, H4⟩, ⟨%d5, %f5, -, H5⟩, ⟨%d6, %f6, -, H6⟩, Hk⟩
  obtain rfl := h1.eq_unread e1; obtain rfl := h2.eq_unread e2; obtain rfl := h3.eq_unread e3; obtain rfl := h4.eq_unread e4
  simp only [cc0__viterbi_body_eq_skeleton]
  unfold cc0__viterbi_body_skel
  sl_exec
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; swap; · iexact H5
    ipureintro
    rw [read_walk_all]
    unfold result
    rw [whole_load2 M3 h3, whole_load2 M4 h4, filled_all (F := F) 𝒱₀ c none i M1 h1 M2 h2 M3 h3 M4 h4 M5 h5 M6 h6 _ _ _ _ _ M6.view.junk]
  iexists _; iexists _; isplitr; swap; · iexact H6
  ipureintro; rfl

/-! ### The launch -/

variable (m : (ℓ : Loc nD τ sig) → Buf (Elt F) ℓ) (ρ : Dev nD → PrngReg)

/-- What the body leaves in the output's staging buffer at the grid's one point. -/
def outsAt (c : Dev nD) (t : Fin cfg0.N) : Vec F S16x8x4096 .f32 :=
  result c (grid0.coords t) (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4)) (Memref.whole cc0_scratch0) (Memref.isWhole_whole _)
    (iblk m c 0 t) (iblk m c 1 t) (iblk m c 2 t) (iblk m c 3 t)

/-- The proof data: the arrays as the region finds them; after the body each input's buffer at its block and the
    output's at `outsAt`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outsAt m c t
  Φ _ := Pipeline.ΦA spec0 c
  q _ := fullShare
  owed _ := 0

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outsAt m c t := by dsimp only [dats]

theorem before_0 (c : Dev nD) (t : Fin cfg0.N) (d) : (dats m 0 c).before 0 t d = iblk m c 0 t :=
  before0_0_of m (dats m 0 c) rfl (after_0 m c) t d
theorem before_1 (c : Dev nD) (t : Fin cfg0.N) (d) : (dats m 0 c).before 1 t d = iblk m c 1 t :=
  before0_1_of m (dats m 0 c) rfl (after_1 m c) t d
theorem before_2 (c : Dev nD) (t : Fin cfg0.N) (d) : (dats m 0 c).before 2 t d = iblk m c 2 t :=
  before0_2_of m (dats m 0 c) rfl (after_2 m c) t d
theorem before_3 (c : Dev nD) (t : Fin cfg0.N) (d) : (dats m 0 c).before 3 t d = iblk m c 3 t :=
  before0_3_of m (dats m 0 c) rfl (after_3 m c) t d

/-- The scratch buffer held at some contents, as the body takes it and gives it back. -/
theorem scratch_owns (c : Dev nD) :
    (Pipeline.scopedRest (Ix := Unit) (Name := ℕ) (U := UR sig nD τ) (Lvl := ℕ) (Val := Elt F) spec0 c : sProp 𝕄)
      = iprop(∃ f : Buf (Elt F) ((c : Thread nD τ).loc cc0_scratch0), ((c : Thread nD τ).loc cc0_scratch0) ↦{fullShare} f) := by
  rw [scopedRest0_eq]

theorem scratch_in (c : Dev nD) :
    iprop(∃ f : Buf (Elt F) ((c : Thread nD τ).loc cc0_scratch0), ((c : Thread nD τ).loc cc0_scratch0) ↦{fullShare} f)
      ⊢ (iprop(∃ d, owns (c : Thread nD τ) (Memref.whole cc0_scratch0) fullShare d) : sProp 𝕄) := by
  unfold owns
  simp only [Memref.view_whole, View.read_whole, View.set_whole]
  iintro ⟨%f, H⟩
  iexists f; iexists f; isplitr; · ipureintro; rfl
  iexact H

theorem scratch_out (c : Dev nD) :
    (iprop(∃ d, owns (c : Thread nD τ) (Memref.whole cc0_scratch0) fullShare d) : sProp 𝕄)
      ⊢ iprop(∃ f : Buf (Elt F) ((c : Thread nD τ).loc cc0_scratch0), ((c : Thread nD τ).loc cc0_scratch0) ↦{fullShare} f) := by
  unfold owns
  simp only [Memref.view_whole, View.read_whole, View.set_whole]
  iintro ⟨%d, %f, -, H⟩
  iexists f; iexact H

theorem body_obligation (c : Dev nD) : BodyObligation (dats (F := F) m 0 c) (defs₀ (F := F)) 𝒱₀ () Set.univ := fun t => by
  rw [bigSep_W0, bigSep_W0]
  sl_whnfR [defs₀, Defs.onTc]
  simp only [before_0, before_1, before_2, before_3]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after_0, after_1, after_2, after_3, after_4]
  unfold Pipeline.ΦA
  rw [scratch_owns]
  unfold outsAt
  iintro ⟨⟨HS, Hp⟩, Ho, ⟨%d0, H0⟩, ⟨%d1, H1⟩, ⟨%d2, H2⟩, ⟨%d3, H3⟩, ⟨%d4, H4⟩⟩
  ihave HS := (scratch_in (F := F) c) $$ HS
  iapply (body_run c _ _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, H4, HS⟩
  ihave HS := (scratch_out (F := F) c) $$ HS
  isplitl [HS Hp]
  · isplitl [HS]; · iexact HS
    iexact Hp
  isplitl [Ho]; · iexact Ho
  isplitl [H0]; · iexact H0
  isplitl [H1]; · iexact H1
  isplitl [H2]; · iexact H2
  isplitl [H3]; · iexact H3
  iexact H4

set_option backward.isDefEq.respectTransparency.types false in
/-- From any memory with zero counters the program ends with every array at what the pipeline computes, every buffer
    the later host lines write at what they compute, and every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := fun _ _ => rfl) (hΦ := fun _ _ => rfl)

/-- The argument ends as it was launched, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_with_sems (frame_of m ρ (dats m) fun _ _ => rfl) (run_main m ρ)

end Cert.KernelIdeal.Body

end
-- ==== Proof.RI.Ops.lean ====
/-
  The reference as lists of host operations: what each stretch between its loops runs, and each loop's condition and
  body.
-/
module

public import proofs.«01_k».proof.ReferenceIdeal
public import proofs.«01_k».proof.Proof.Gen.ReferenceIdeal
public import Idealize.ShloMosaic.Lib.StableHlo.RunLoop

@[expose] public section

set_option maxRecDepth 8192

noncomputable section

namespace Cert.ReferenceIdeal.Ops

open Cert.ReferenceIdeal Cert.ReferenceIdeal.Facts₀ Cert.ReferenceIdeal.Facts
open Idealize.ShloMosaic Idealize.ShloMosaic.StableHlo Idealize.ShloMosaic.TcCoe

variable {F : FTy → Type} [FloatOps F]

/-- What a buffer of one shape and element type holds. -/
abbrev C (F : FTy → Type) (S : Shape) (t : EltTy) : Type := BufTy.Contents (Elt F) ⟨S, t⟩

/-- The operations before the first loop: the two tables, the tiled and clipped input by time, the zero states. -/
abbrev preOps : List (HloOp τ sig (Elt F)) := [
  nullary main_c (fun i => lit0 (S64x2.rowMajor i)),
  nullary main_cst (fun i => FloatOps.ofBits .f32 (lit1 (S64x2x2.rowMajor i))),
  reshape main_arg0 main_v0 (rfl : (.f32 : EltTy) = .f32) shapeCasts_S4096x256_S1x4096x1x256,
  unary main_v0 main_v1 (broadcastInDim S1x4096x3x256 ![0, 1, 2, 3] bcast_S1x4096x1x256_S1x4096x3x256_0_1_2_3 : C F S1x4096x1x256 .f32 → C F S1x4096x3x256 .f32),
  reshape main_v1 main_v2 (rfl : (.f32 : EltTy) = .f32) shapeCasts_S1x4096x3x256_S4096x768,
  nullary main_c_0 (constantI S_ 32 4294967276#32),
  nullary main_c_1 (constantI S_ 32 20#32),
  TRef.unary (.of main_c_0 : TRef sig ⟨S_, .i32⟩) (.of main_call0_v0 : TRef sig ⟨S_, .f32⟩) (sitofp .f32),
  TRef.unary (.of main_call0_v0 : TRef sig ⟨S_, .f32⟩) (.of main_call0_v1 : TRef sig ⟨S4096x768, .f32⟩) (broadcastInDim S4096x768 ![] bcast_S_S4096x768),
  TRef.binary (.of main_call0_v1 : TRef sig ⟨S4096x768, .f32⟩) (.of main_v2 : TRef sig ⟨S4096x768, .f32⟩) (.of main_call0_v2 : TRef sig ⟨S4096x768, .f32⟩) maximumf,
  TRef.unary (.of main_c_1 : TRef sig ⟨S_, .i32⟩) (.of main_call0_v3 : TRef sig ⟨S_, .f32⟩) (sitofp .f32),
  TRef.unary (.of main_call0_v3 : TRef sig ⟨S_, .f32⟩) (.of main_call0_v4 : TRef sig ⟨S4096x768, .f32⟩) (broadcastInDim S4096x768 ![] bcast_S_S4096x768),
  TRef.binary (.of main_call0_v4 : TRef sig ⟨S4096x768, .f32⟩) (.of main_call0_v2 : TRef sig ⟨S4096x768, .f32⟩) (.of main_v3 : TRef sig ⟨S4096x768, .f32⟩) minimumf,
  reshape main_v3 main_v4 (rfl : (.f32 : EltTy) = .f32) shapeCasts_S4096x768_S4096x384x2,
  unary main_v4 main_v5 ((transpose S384x4096x2 [1, 0, 2] · transposes_S4096x384x2_S384x4096x2_1_0_2) : C F S4096x384x2 .f32 → C F S384x4096x2 .f32),
  nullary main_cst_2 (constant S_ .f32 0x00000000#32),
  unary main_cst_2 main_v6 (broadcastInDim S4096x64 ![] bcast_S_S4096x64 : C F S_ .f32 → C F S4096x64 .f32),
  nullary main_v7 (iotaInDim S64 32 0),
  nullary main_cst_3 (constant S_ .f32 0x00000000#32),
  unary main_cst_3 main_v8 (broadcastInDim S384x4096x64 ![] bcast_S_S384x4096x64 : C F S_ .f32 → C F S384x4096x64 .f32),
  nullary main_cst_4 (constant S_ .f32 0x00000000#32),
  unary main_cst_4 main_v9 (broadcastInDim S384x4096x64 ![] bcast_S_S384x4096x64 : C F S_ .f32 → C F S384x4096x64 .f32),
  nullary main_c_5 (constantI S_ 32 0#32),
  unary main_v5 main_v10_0 id,
  unary main_cst main_v10_1 id,
  unary main_c main_v10_2 id,
  unary main_v7 main_v10_3 id,
  unary main_c_5 main_v10_4 id,
  unary main_v6 main_v10_5 id,
  unary main_v8 main_v10_6 id,
  unary main_v9 main_v10_7 id]

theorem preOps_sub : (preOps (F := F)).Forall fun op => op.bufs ⊆ tcRefs τ sig :=
  ⟨nullary_bufs_sub .., nullary_bufs_sub .., reshape_bufs_sub .., unary_bufs_sub .., reshape_bufs_sub .., nullary_bufs_sub .., nullary_bufs_sub ..,
  unary_bufs_sub .., unary_bufs_sub .., binary_bufs_sub .., unary_bufs_sub .., unary_bufs_sub .., binary_bufs_sub .., reshape_bufs_sub .., unary_bufs_sub ..,
  nullary_bufs_sub .., unary_bufs_sub .., nullary_bufs_sub .., nullary_bufs_sub .., unary_bufs_sub .., nullary_bufs_sub .., unary_bufs_sub ..,
  nullary_bufs_sub .., unary_bufs_sub .., unary_bufs_sub .., unary_bufs_sub .., unary_bufs_sub .., unary_bufs_sub .., unary_bufs_sub .., unary_bufs_sub ..,
  unary_bufs_sub ..⟩

theorem preOps_plain : Plain [preOps (F := F)] :=
  .cons preOps_sub .nil (List.forall_iff_forall_mem.mp (show (preOps (F := F)).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩))

/-- The first loop's condition. -/
abbrev cond0Ops : List (HloOp τ sig (Elt F)) := [
  nullary main_while0c_c_16 (constantI S_ 32 384#32),
  binary main_v10_4 main_while0c_c_16 main_while0c_v17 (cmpi .slt : C F S_ .i32 → C F S_ .i32 → C F S_ .i1)]

theorem cond0Ops_sub : (cond0Ops (F := F)).Forall fun op => op.bufs ⊆ tcRefs τ sig :=
  ⟨nullary_bufs_sub .., binary_bufs_sub ..⟩

theorem cond0Ops_plain : Plain [cond0Ops (F := F)] :=
  .cons cond0Ops_sub .nil (List.forall_iff_forall_mem.mp (show (cond0Ops (F := F)).Forall fun op => op.fresh = ∅ from
    ⟨rfl, rfl⟩))

/-- One trip of the first loop: one step of the path metrics, and what it keeps of it. -/
abbrev body0Ops : List (HloOp τ sig (Elt F)) := [
  TRef.nullary (.of main_while0b_call1_c : TRef sig ⟨S_, .i32⟩) (constantI S_ 32 0#32),
  TRef.nullary (.of main_while0b_call1_c_0 : TRef sig ⟨S_, .i32⟩) (constantI S_ 32 0#32),
  TRef.unaryIndexed (.of main_v10_0 : TRef sig ⟨S384x4096x2, .f32⟩) ![(.of main_v10_4 : TRef sig ⟨S_, .i32⟩), (.of main_while0b_call1_c : TRef sig ⟨S_, .i32⟩), (.of main_while0b_call1_c_0 : TRef sig ⟨S_, .i32⟩)] (.of main_while0b_call1_v0 : TRef sig ⟨S1x4096x2, .f32⟩) (fun x i => Host.dynamicSlice S1x4096x2 x (fun k => (i k (Shape.Idx.first h_S_)).toInt) sliceFits_S384x4096x2_S1x4096x2),
  TRef.reshape (.of main_while0b_call1_v0 : TRef sig ⟨S1x4096x2, .f32⟩) (.of main_while0b_v17 : TRef sig ⟨S4096x2, .f32⟩) (rfl : (.f32 : EltTy) = .f32) shapeCasts_S1x4096x2_S4096x2,
  binary main_while0b_v17 main_v10_1 main_while0b_v18 ((fun l r => Host.dotGeneral dot_S4096x2_S64x2x2_S4096x64x2_1_2_0_01_n_n none l r) : C F S4096x2 .f32 → C F S64x2x2 .f32 → C F S4096x64x2 .f32),
  nullary main_while0b_c_16 (constantI S_ 32 0#32),
  unary main_while0b_c_16 main_while0b_v19 (broadcastInDim S64x2 ![] bcast_S_S64x2 : C F S_ .i32 → C F S64x2 .i32),
  binary main_v10_2 main_while0b_v19 main_while0b_v20 (cmpi .slt : C F S64x2 .i32 → C F S64x2 .i32 → C F S64x2 .i1),
  nullary main_while0b_c_17 (constantI S_ 32 64#32),
  unary main_while0b_c_17 main_while0b_v21 (broadcastInDim S64x2 ![] bcast_S_S64x2 : C F S_ .i32 → C F S64x2 .i32),
  binary main_v10_2 main_while0b_v21 main_while0b_v22 (addi : C F S64x2 .i32 → C F S64x2 .i32 → C F S64x2 .i32),
  ternary main_while0b_v20 main_while0b_v22 main_v10_2 main_while0b_v23 (select : C F S64x2 .i1 → C F S64x2 .i32 → C F S64x2 .i32 → C F S64x2 .i32),
  unary main_while0b_v23 main_while0b_v24 (broadcastInDim S64x2x1 ![0, 1] bcast_S64x2_S64x2x1_0_1 : C F S64x2 .i32 → C F S64x2x1 .i32),
  binary main_v10_5 main_while0b_v24 main_while0b_v25 ((fun x i => Host.gather gather_S4096x64_S64x2x1_S4096x64x2_0_1_n_n_1_2_40961 x i) : C F S4096x64 .f32 → C F S64x2x1 .i32 → C F S4096x64x2 .f32),
  binary main_while0b_v25 main_while0b_v18 main_while0b_v26 (addf : C F S4096x64x2 .f32 → C F S4096x64x2 .f32 → C F S4096x64x2 .f32),
  nullary main_while0b_cst_18 (constant S_ .f32 0xFF800000#32),
  binary main_while0b_v26 main_while0b_cst_18 main_while0b_v27 ((fun x v => Host.reduce FloatOps.maximumf x v reducesTo_S4096x64x2_S4096x64_d2 h_S_) : C F S4096x64x2 .f32 → C F S_ .f32 → C F S4096x64 .f32),
  TRef.nullary (.of main_while0b_call2_v0 : TRef sig ⟨S4096x64x2, .i32⟩) (iotaInDim S4096x64x2 32 2),
  TRef.nullary (.of main_while0b_call2_cst : TRef sig ⟨S_, .f32⟩) (constant S_ .f32 0xFF800000#32),
  TRef.nullary (.of main_while0b_call2_c : TRef sig ⟨S_, .i32⟩) (constantI S_ 32 0#32),
  TRef.quaternary (.of main_while0b_v26 : TRef sig ⟨S4096x64x2, .f32⟩) (.of main_while0b_call2_v0 : TRef sig ⟨S4096x64x2, .i32⟩) (.of main_while0b_call2_cst : TRef sig ⟨S_, .f32⟩) (.of main_while0b_call2_c : TRef sig ⟨S_, .i32⟩) (.of main_while0b_call2_v1_0 : TRef sig ⟨S4096x64, .f32⟩) (fun x y u v j => (Host.argReduce reducer_argmax_f32_i32 x y u v reducesTo_S4096x64x2_S4096x64_d2 h_S_ j).1),
  TRef.quaternary (.of main_while0b_v26 : TRef sig ⟨S4096x64x2, .f32⟩) (.of main_while0b_call2_v0 : TRef sig ⟨S4096x64x2, .i32⟩) (.of main_while0b_call2_cst : TRef sig ⟨S_, .f32⟩) (.of main_while0b_call2_c : TRef sig ⟨S_, .i32⟩) (.of main_while0b_v28 : TRef sig ⟨S4096x64, .i32⟩) (fun x y u v j => (Host.argReduce reducer_argmax_f32_i32 x y u v reducesTo_S4096x64x2_S4096x64_d2 h_S_ j).2),
  unary main_v10_3 main_while0b_v29 (broadcastInDim S1x64 ![1] bcast_S64_S1x64_1 : C F S64 .i32 → C F S1x64 .i32),
  nullary main_while0b_c_19 (constantI S_ 32 0#32),
  unary main_while0b_c_19 main_while0b_v30 (broadcastInDim S1x64 ![] bcast_S_S1x64 : C F S_ .i32 → C F S1x64 .i32),
  binary main_while0b_v29 main_while0b_v30 main_while0b_v31 (cmpi .slt : C F S1x64 .i32 → C F S1x64 .i32 → C F S1x64 .i1),
  nullary main_while0b_c_20 (constantI S_ 32 64#32),
  unary main_while0b_c_20 main_while0b_v32 (broadcastInDim S1x64 ![] bcast_S_S1x64 : C F S_ .i32 → C F S1x64 .i32),
  binary main_while0b_v29 main_while0b_v32 main_while0b_v33 (addi : C F S1x64 .i32 → C F S1x64 .i32 → C F S1x64 .i32),
  ternary main_while0b_v31 main_while0b_v33 main_while0b_v29 main_while0b_v34 (select : C F S1x64 .i1 → C F S1x64 .i32 → C F S1x64 .i32 → C F S1x64 .i32),
  nullary main_while0b_c_21 (constantI S_ 32 0#32),
  unary main_while0b_c_21 main_while0b_v35 (broadcastInDim S4096x64 ![] bcast_S_S4096x64 : C F S_ .i32 → C F S4096x64 .i32),
  binary main_while0b_v28 main_while0b_v35 main_while0b_v36 (cmpi .slt : C F S4096x64 .i32 → C F S4096x64 .i32 → C F S4096x64 .i1),
  nullary main_while0b_c_22 (constantI S_ 32 2#32),
  unary main_while0b_c_22 main_while0b_v37 (broadcastInDim S4096x64 ![] bcast_S_S4096x64 : C F S_ .i32 → C F S4096x64 .i32),
  binary main_while0b_v28 main_while0b_v37 main_while0b_v38 (addi : C F S4096x64 .i32 → C F S4096x64 .i32 → C F S4096x64 .i32),
  ternary main_while0b_v36 main_while0b_v38 main_while0b_v28 main_while0b_v39 (select : C F S4096x64 .i1 → C F S4096x64 .i32 → C F S4096x64 .i32 → C F S4096x64 .i32),
  unary main_while0b_v34 main_while0b_v40 (broadcastInDim S4096x64 ![0, 1] bcast_S1x64_S4096x64_0_1 : C F S1x64 .i32 → C F S4096x64 .i32),
  unary main_while0b_v40 main_while0b_v41 (broadcastInDim S4096x64x1 ![0, 1] bcast_S4096x64_S4096x64x1_0_1 : C F S4096x64 .i32 → C F S4096x64x1 .i32),
  unary main_while0b_v39 main_while0b_v42 (broadcastInDim S4096x64x1 ![0, 1] bcast_S4096x64_S4096x64x1_0_1 : C F S4096x64 .i32 → C F S4096x64x1 .i32),
  binary main_while0b_v41 main_while0b_v42 main_while0b_v43 ((fun a b => concatenate S4096x64x2 2 [⟨S4096x64x1, a⟩, ⟨S4096x64x1, b⟩] concatenates_S4096x64x1_S4096x64x1_S4096x64x2_d2) : C F S4096x64x1 .i32 → C F S4096x64x1 .i32 → C F S4096x64x2 .i32),
  binary main_v10_2 main_while0b_v43 main_while0b_v44 ((fun x i => Host.gather gather_S64x2_S4096x64x2_S4096x64_n_01_n_n_01_2_11 x i) : C F S64x2 .i32 → C F S4096x64x2 .i32 → C F S4096x64 .i32),
  unary main_while0b_v44 main_while0b_v45 (sitofp .f32 : C F S4096x64 .i32 → C F S4096x64 .f32),
  nullary main_while0b_cst_23 (constant S_ .f32 0xFF800000#32),
  binary main_while0b_v27 main_while0b_cst_23 main_while0b_v46 ((fun x v => Host.reduce FloatOps.maximumf x v reducesTo_S4096x64_S4096_d1 h_S_) : C F S4096x64 .f32 → C F S_ .f32 → C F S4096 .f32),
  unary main_while0b_v46 main_while0b_v47 (broadcastInDim S4096x1 ![0] bcast_S4096_S4096x1_0 : C F S4096 .f32 → C F S4096x1 .f32),
  unary main_while0b_v47 main_while0b_v48 (broadcastInDim S4096x64 ![0, 1] bcast_S4096x1_S4096x64_0_1 : C F S4096x1 .f32 → C F S4096x64 .f32),
  binary main_while0b_v27 main_while0b_v48 main_while0b_v49 (subf : C F S4096x64 .f32 → C F S4096x64 .f32 → C F S4096x64 .f32),
  TRef.unary (.of main_while0b_v49 : TRef sig ⟨S4096x64, .f32⟩) (.of main_while0b_call3_v0 : TRef sig ⟨S1x4096x64, .f32⟩) (broadcastInDim S1x4096x64 ![1, 2] bcast_S4096x64_S1x4096x64_1_2),
  TRef.nullary (.of main_while0b_call3_c : TRef sig ⟨S_, .i32⟩) (constantI S_ 32 0#32),
  TRef.nullary (.of main_while0b_call3_c_0 : TRef sig ⟨S_, .i32⟩) (constantI S_ 32 0#32),
  TRef.binaryIndexed (.of main_v10_6 : TRef sig ⟨S384x4096x64, .f32⟩) (.of main_while0b_call3_v0 : TRef sig ⟨S1x4096x64, .f32⟩) ![(.of main_v10_4 : TRef sig ⟨S_, .i32⟩), (.of main_while0b_call3_c : TRef sig ⟨S_, .i32⟩), (.of main_while0b_call3_c_0 : TRef sig ⟨S_, .i32⟩)] (.of main_while0b_v50 : TRef sig ⟨S384x4096x64, .f32⟩) (fun x u i => Host.dynamicUpdateSlice x u (fun k => (i k (Shape.Idx.first h_S_)).toInt) updateFits_S384x4096x64_S1x4096x64),
  TRef.unary (.of main_while0b_v45 : TRef sig ⟨S4096x64, .f32⟩) (.of main_while0b_call4_v0 : TRef sig ⟨S1x4096x64, .f32⟩) (broadcastInDim S1x4096x64 ![1, 2] bcast_S4096x64_S1x4096x64_1_2),
  TRef.nullary (.of main_while0b_call4_c : TRef sig ⟨S_, .i32⟩) (constantI S_ 32 0#32),
  TRef.nullary (.of main_while0b_call4_c_0 : TRef sig ⟨S_, .i32⟩) (constantI S_ 32 0#32),
  TRef.binaryIndexed (.of main_v10_7 : TRef sig ⟨S384x4096x64, .f32⟩) (.of main_while0b_call4_v0 : TRef sig ⟨S1x4096x64, .f32⟩) ![(.of main_v10_4 : TRef sig ⟨S_, .i32⟩), (.of main_while0b_call4_c : TRef sig ⟨S_, .i32⟩), (.of main_while0b_call4_c_0 : TRef sig ⟨S_, .i32⟩)] (.of main_while0b_v51 : TRef sig ⟨S384x4096x64, .f32⟩) (fun x u i => Host.dynamicUpdateSlice x u (fun k => (i k (Shape.Idx.first h_S_)).toInt) updateFits_S384x4096x64_S1x4096x64),
  nullary main_while0b_c_24 (constantI S_ 32 1#32),
  binary main_v10_4 main_while0b_c_24 main_while0b_v52 (addi : C F S_ .i32 → C F S_ .i32 → C F S_ .i32),
  unary main_while0b_v52 main_v10_4 id,
  unary main_while0b_v49 main_v10_5 id,
  unary main_while0b_v50 main_v10_6 id,
  unary main_while0b_v51 main_v10_7 id]

theorem body0Ops_sub : (body0Ops (F := F)).Forall fun op => op.bufs ⊆ tcRefs τ sig :=
  ⟨nullary_bufs_sub .., nullary_bufs_sub .., unaryIndexed_bufs_sub .., reshape_bufs_sub .., binary_bufs_sub .., nullary_bufs_sub .., unary_bufs_sub ..,
  binary_bufs_sub .., nullary_bufs_sub .., unary_bufs_sub .., binary_bufs_sub .., ternary_bufs_sub .., unary_bufs_sub .., binary_bufs_sub ..,
  binary_bufs_sub .., nullary_bufs_sub .., binary_bufs_sub .., nullary_bufs_sub .., nullary_bufs_sub .., nullary_bufs_sub .., quaternary_bufs_sub ..,
  quaternary_bufs_sub .., unary_bufs_sub .., nullary_bufs_sub .., unary_bufs_sub .., binary_bufs_sub .., nullary_bufs_sub .., unary_bufs_sub ..,
  binary_bufs_sub .., ternary_bufs_sub .., nullary_bufs_sub .., unary_bufs_sub .., binary_bufs_sub .., nullary_bufs_sub .., unary_bufs_sub ..,
  binary_bufs_sub .., ternary_bufs_sub .., unary_bufs_sub .., unary_bufs_sub .., unary_bufs_sub .., binary_bufs_sub .., binary_bufs_sub .., unary_bufs_sub ..,
  nullary_bufs_sub .., binary_bufs_sub .., unary_bufs_sub .., unary_bufs_sub .., binary_bufs_sub .., unary_bufs_sub .., nullary_bufs_sub ..,
  nullary_bufs_sub .., binaryIndexed_bufs_sub .., unary_bufs_sub .., nullary_bufs_sub .., nullary_bufs_sub .., binaryIndexed_bufs_sub .., nullary_bufs_sub ..,
  binary_bufs_sub .., unary_bufs_sub .., unary_bufs_sub .., unary_bufs_sub .., unary_bufs_sub ..⟩

theorem body0Ops_plain : Plain [body0Ops (F := F)] :=
  .cons body0Ops_sub .nil (List.forall_iff_forall_mem.mp (show (body0Ops (F := F)).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩))

/-- The operations between the loops. -/
abbrev midOps : List (HloOp τ sig (Elt F)) := [
  nullary main_v11 (iotaInDim S4096 32 0),
  nullary main_c_6 (constantI S_ 32 0#32),
  unary main_c_6 main_v12 (broadcastInDim S4096 ![] bcast_S_S4096 : C F S_ .i32 → C F S4096 .i32),
  nullary main_cst_7 (constant S_ .f32 0x00000000#32),
  unary main_cst_7 main_v13 (broadcastInDim S384x4096 ![] bcast_S_S384x4096 : C F S_ .f32 → C F S384x4096 .f32),
  nullary main_c_8 (constantI S_ 32 0#32),
  unary main_v10_7 main_v14_0 id,
  unary main_v11 main_v14_1 id,
  unary main_c_8 main_v14_2 id,
  unary main_v12 main_v14_3 id,
  unary main_v13 main_v14_4 id]

theorem midOps_sub : (midOps (F := F)).Forall fun op => op.bufs ⊆ tcRefs τ sig :=
  ⟨nullary_bufs_sub .., nullary_bufs_sub .., unary_bufs_sub .., nullary_bufs_sub .., unary_bufs_sub .., nullary_bufs_sub .., unary_bufs_sub ..,
  unary_bufs_sub .., unary_bufs_sub .., unary_bufs_sub .., unary_bufs_sub ..⟩

theorem midOps_plain : Plain [midOps (F := F)] :=
  .cons midOps_sub .nil (List.forall_iff_forall_mem.mp (show (midOps (F := F)).Forall fun op => op.fresh = ∅ from
    ⟨rfl, rfl, rfl, rfl, rfl, rfl, rfl, rfl, rfl, rfl, rfl⟩))

/-- The second loop's condition. -/
abbrev cond1Ops : List (HloOp τ sig (Elt F)) := [
  nullary main_while1c_c_13 (constantI S_ 32 384#32),
  binary main_v14_2 main_while1c_c_13 main_while1c_v17 (cmpi .slt : C F S_ .i32 → C F S_ .i32 → C F S_ .i1)]

theorem cond1Ops_sub : (cond1Ops (F := F)).Forall fun op => op.bufs ⊆ tcRefs τ sig :=
  ⟨nullary_bufs_sub .., binary_bufs_sub ..⟩

theorem cond1Ops_plain : Plain [cond1Ops (F := F)] :=
  .cons cond1Ops_sub .nil (List.forall_iff_forall_mem.mp (show (cond1Ops (F := F)).Forall fun op => op.fresh = ∅ from
    ⟨rfl, rfl⟩))

/-- One trip of the second loop: one step back along the survivors. -/
abbrev body1Ops : List (HloOp τ sig (Elt F)) := [
  nullary main_while1b_c_13 (constantI S_ 32 384#32),
  binary main_while1b_c_13 main_v14_2 main_while1b_v17 (subi : C F S_ .i32 → C F S_ .i32 → C F S_ .i32),
  nullary main_while1b_c_14 (constantI S_ 32 1#32),
  binary main_while1b_v17 main_while1b_c_14 main_while1b_v18 (subi : C F S_ .i32 → C F S_ .i32 → C F S_ .i32),
  TRef.nullary (.of main_while1b_call5_c : TRef sig ⟨S_, .i32⟩) (constantI S_ 32 0#32),
  TRef.nullary (.of main_while1b_call5_c_0 : TRef sig ⟨S_, .i32⟩) (constantI S_ 32 0#32),
  TRef.unaryIndexed (.of main_v14_0 : TRef sig ⟨S384x4096x64, .f32⟩) ![(.of main_while1b_v18 : TRef sig ⟨S_, .i32⟩), (.of main_while1b_call5_c : TRef sig ⟨S_, .i32⟩), (.of main_while1b_call5_c_0 : TRef sig ⟨S_, .i32⟩)] (.of main_while1b_call5_v0 : TRef sig ⟨S1x4096x64, .f32⟩) (fun x i => Host.dynamicSlice S1x4096x64 x (fun k => (i k (Shape.Idx.first h_S_)).toInt) sliceFits_S384x4096x64_S1x4096x64),
  TRef.reshape (.of main_while1b_call5_v0 : TRef sig ⟨S1x4096x64, .f32⟩) (.of main_while1b_v19 : TRef sig ⟨S4096x64, .f32⟩) (rfl : (.f32 : EltTy) = .f32) shapeCasts_S1x4096x64_S4096x64,
  nullary main_while1b_c_15 (constantI S_ 32 1#32),
  unary main_while1b_c_15 main_while1b_v20 (broadcastInDim S4096 ![] bcast_S_S4096 : C F S_ .i32 → C F S4096 .i32),
  binary main_v14_3 main_while1b_v20 main_while1b_v21 (addi : C F S4096 .i32 → C F S4096 .i32 → C F S4096 .i32),
  nullary main_while1b_c_16 (constantI S_ 32 2#32),
  TRef.unary (.of main_while1b_c_16 : TRef sig ⟨S_, .i32⟩) (.of main_while1b_call6_v0 : TRef sig ⟨S_, .i32⟩) id,
  TRef.nullary (.of main_while1b_call6_c : TRef sig ⟨S_, .i32⟩) (constantI S_ 32 0#32),
  TRef.binary (.of main_while1b_call6_v0 : TRef sig ⟨S_, .i32⟩) (.of main_while1b_call6_c : TRef sig ⟨S_, .i32⟩) (.of main_while1b_call6_v1 : TRef sig ⟨S_, .i1⟩) (cmpi .eq),
  TRef.nullary (.of main_while1b_call6_c_0 : TRef sig ⟨S_, .i32⟩) (constantI S_ 32 1#32),
  TRef.ternary (.of main_while1b_call6_v1 : TRef sig ⟨S_, .i1⟩) (.of main_while1b_call6_c_0 : TRef sig ⟨S_, .i32⟩) (.of main_while1b_call6_v0 : TRef sig ⟨S_, .i32⟩) (.of main_while1b_call6_v2 : TRef sig ⟨S_, .i32⟩) select,
  TRef.unary (.of main_while1b_call6_v2 : TRef sig ⟨S_, .i32⟩) (.of main_while1b_call6_v3 : TRef sig ⟨S4096, .i32⟩) (broadcastInDim S4096 ![] bcast_S_S4096),
  TRef.binary (.of main_while1b_v21 : TRef sig ⟨S4096, .i32⟩) (.of main_while1b_call6_v3 : TRef sig ⟨S4096, .i32⟩) (.of main_while1b_call6_v4 : TRef sig ⟨S4096, .i32⟩) Host.remsi,
  TRef.nullary (.of main_while1b_call6_c_1 : TRef sig ⟨S_, .i32⟩) (constantI S_ 32 0#32),
  TRef.unary (.of main_while1b_call6_c_1 : TRef sig ⟨S_, .i32⟩) (.of main_while1b_call6_v5 : TRef sig ⟨S4096, .i32⟩) (broadcastInDim S4096 ![] bcast_S_S4096),
  TRef.binary (.of main_while1b_call6_v4 : TRef sig ⟨S4096, .i32⟩) (.of main_while1b_call6_v5 : TRef sig ⟨S4096, .i32⟩) (.of main_while1b_call6_v6 : TRef sig ⟨S4096, .i1⟩) (cmpi .ne),
  TRef.nullary (.of main_while1b_call6_c_2 : TRef sig ⟨S_, .i32⟩) (constantI S_ 32 0#32),
  TRef.unary (.of main_while1b_call6_c_2 : TRef sig ⟨S_, .i32⟩) (.of main_while1b_call6_v7 : TRef sig ⟨S4096, .i32⟩) (broadcastInDim S4096 ![] bcast_S_S4096),
  TRef.binary (.of main_while1b_call6_v4 : TRef sig ⟨S4096, .i32⟩) (.of main_while1b_call6_v7 : TRef sig ⟨S4096, .i32⟩) (.of main_while1b_call6_v8 : TRef sig ⟨S4096, .i1⟩) (cmpi .slt),
  TRef.nullary (.of main_while1b_call6_c_3 : TRef sig ⟨S_, .i32⟩) (constantI S_ 32 0#32),
  TRef.binary (.of main_while1b_call6_v2 : TRef sig ⟨S_, .i32⟩) (.of main_while1b_call6_c_3 : TRef sig ⟨S_, .i32⟩) (.of main_while1b_call6_v9 : TRef sig ⟨S_, .i1⟩) (cmpi .slt),
  TRef.unary (.of main_while1b_call6_v9 : TRef sig ⟨S_, .i1⟩) (.of main_while1b_call6_v10 : TRef sig ⟨S4096, .i1⟩) (broadcastInDim S4096 ![] bcast_S_S4096),
  TRef.binary (.of main_while1b_call6_v8 : TRef sig ⟨S4096, .i1⟩) (.of main_while1b_call6_v10 : TRef sig ⟨S4096, .i1⟩) (.of main_while1b_call6_v11 : TRef sig ⟨S4096, .i1⟩) (cmpi .ne),
  TRef.binary (.of main_while1b_call6_v11 : TRef sig ⟨S4096, .i1⟩) (.of main_while1b_call6_v6 : TRef sig ⟨S4096, .i1⟩) (.of main_while1b_call6_v12 : TRef sig ⟨S4096, .i1⟩) andi,
  TRef.unary (.of main_while1b_call6_v2 : TRef sig ⟨S_, .i32⟩) (.of main_while1b_call6_v13 : TRef sig ⟨S4096, .i32⟩) (broadcastInDim S4096 ![] bcast_S_S4096),
  TRef.binary (.of main_while1b_call6_v4 : TRef sig ⟨S4096, .i32⟩) (.of main_while1b_call6_v13 : TRef sig ⟨S4096, .i32⟩) (.of main_while1b_call6_v14 : TRef sig ⟨S4096, .i32⟩) addi,
  TRef.ternary (.of main_while1b_call6_v12 : TRef sig ⟨S4096, .i1⟩) (.of main_while1b_call6_v14 : TRef sig ⟨S4096, .i32⟩) (.of main_while1b_call6_v4 : TRef sig ⟨S4096, .i32⟩) (.of main_while1b_v22 : TRef sig ⟨S4096, .i32⟩) select,
  unary main_while1b_v22 main_while1b_v23 (sitofp .f32 : C F S4096 .i32 → C F S4096 .f32),
  nullary main_while1b_c_17 (constantI S_ 32 0#32),
  unary main_while1b_c_17 main_while1b_v24 (broadcastInDim S4096 ![] bcast_S_S4096 : C F S_ .i32 → C F S4096 .i32),
  binary main_v14_1 main_while1b_v24 main_while1b_v25 (cmpi .slt : C F S4096 .i32 → C F S4096 .i32 → C F S4096 .i1),
  nullary main_while1b_c_18 (constantI S_ 32 4096#32),
  unary main_while1b_c_18 main_while1b_v26 (broadcastInDim S4096 ![] bcast_S_S4096 : C F S_ .i32 → C F S4096 .i32),
  binary main_v14_1 main_while1b_v26 main_while1b_v27 (addi : C F S4096 .i32 → C F S4096 .i32 → C F S4096 .i32),
  ternary main_while1b_v25 main_while1b_v27 main_v14_1 main_while1b_v28 (select : C F S4096 .i1 → C F S4096 .i32 → C F S4096 .i32 → C F S4096 .i32),
  nullary main_while1b_c_19 (constantI S_ 32 0#32),
  unary main_while1b_c_19 main_while1b_v29 (broadcastInDim S4096 ![] bcast_S_S4096 : C F S_ .i32 → C F S4096 .i32),
  binary main_v14_3 main_while1b_v29 main_while1b_v30 (cmpi .slt : C F S4096 .i32 → C F S4096 .i32 → C F S4096 .i1),
  nullary main_while1b_c_20 (constantI S_ 32 64#32),
  unary main_while1b_c_20 main_while1b_v31 (broadcastInDim S4096 ![] bcast_S_S4096 : C F S_ .i32 → C F S4096 .i32),
  binary main_v14_3 main_while1b_v31 main_while1b_v32 (addi : C F S4096 .i32 → C F S4096 .i32 → C F S4096 .i32),
  ternary main_while1b_v30 main_while1b_v32 main_v14_3 main_while1b_v33 (select : C F S4096 .i1 → C F S4096 .i32 → C F S4096 .i32 → C F S4096 .i32),
  unary main_while1b_v28 main_while1b_v34 (broadcastInDim S4096x1 ![0] bcast_S4096_S4096x1_0 : C F S4096 .i32 → C F S4096x1 .i32),
  unary main_while1b_v33 main_while1b_v35 (broadcastInDim S4096x1 ![0] bcast_S4096_S4096x1_0 : C F S4096 .i32 → C F S4096x1 .i32),
  binary main_while1b_v34 main_while1b_v35 main_while1b_v36 ((fun a b => concatenate S4096x2 1 [⟨S4096x1, a⟩, ⟨S4096x1, b⟩] concatenates_S4096x1_S4096x1_S4096x2_d1) : C F S4096x1 .i32 → C F S4096x1 .i32 → C F S4096x2 .i32),
  binary main_while1b_v19 main_while1b_v36 main_while1b_v37 ((fun x i => Host.gather gather_S4096x64_S4096x2_S4096_n_01_n_n_01_1_11 x i) : C F S4096x64 .f32 → C F S4096x2 .i32 → C F S4096 .f32),
  unary main_while1b_v37 main_while1b_v38 (fptosi 32 : C F S4096 .f32 → C F S4096 .i32),
  TRef.unary (.of main_while1b_v23 : TRef sig ⟨S4096, .f32⟩) (.of main_while1b_call7_v0 : TRef sig ⟨S1x4096, .f32⟩) (broadcastInDim S1x4096 ![1] bcast_S4096_S1x4096_1),
  TRef.nullary (.of main_while1b_call7_c : TRef sig ⟨S_, .i32⟩) (constantI S_ 32 0#32),
  TRef.binaryIndexed (.of main_v14_4 : TRef sig ⟨S384x4096, .f32⟩) (.of main_while1b_call7_v0 : TRef sig ⟨S1x4096, .f32⟩) ![(.of main_while1b_v18 : TRef sig ⟨S_, .i32⟩), (.of main_while1b_call7_c : TRef sig ⟨S_, .i32⟩)] (.of main_while1b_v39 : TRef sig ⟨S384x4096, .f32⟩) (fun x u i => Host.dynamicUpdateSlice x u (fun k => (i k (Shape.Idx.first h_S_)).toInt) updateFits_S384x4096_S1x4096),
  nullary main_while1b_c_21 (constantI S_ 32 1#32),
  binary main_v14_2 main_while1b_c_21 main_while1b_v40 (addi : C F S_ .i32 → C F S_ .i32 → C F S_ .i32),
  unary main_while1b_v40 main_v14_2 id,
  unary main_while1b_v38 main_v14_3 id,
  unary main_while1b_v39 main_v14_4 id]

theorem body1Ops_sub : (body1Ops (F := F)).Forall fun op => op.bufs ⊆ tcRefs τ sig :=
  ⟨nullary_bufs_sub .., binary_bufs_sub .., nullary_bufs_sub .., binary_bufs_sub .., nullary_bufs_sub .., nullary_bufs_sub .., unaryIndexed_bufs_sub ..,
  reshape_bufs_sub .., nullary_bufs_sub .., unary_bufs_sub .., binary_bufs_sub .., nullary_bufs_sub .., unary_bufs_sub .., nullary_bufs_sub ..,
  binary_bufs_sub .., nullary_bufs_sub .., ternary_bufs_sub .., unary_bufs_sub .., binary_bufs_sub .., nullary_bufs_sub .., unary_bufs_sub ..,
  binary_bufs_sub .., nullary_bufs_sub .., unary_bufs_sub .., binary_bufs_sub .., nullary_bufs_sub .., binary_bufs_sub .., unary_bufs_sub ..,
  binary_bufs_sub .., binary_bufs_sub .., unary_bufs_sub .., binary_bufs_sub .., ternary_bufs_sub .., unary_bufs_sub .., nullary_bufs_sub ..,
  unary_bufs_sub .., binary_bufs_sub .., nullary_bufs_sub .., unary_bufs_sub .., binary_bufs_sub .., ternary_bufs_sub .., nullary_bufs_sub ..,
  unary_bufs_sub .., binary_bufs_sub .., nullary_bufs_sub .., unary_bufs_sub .., binary_bufs_sub .., ternary_bufs_sub .., unary_bufs_sub .., unary_bufs_sub ..,
  binary_bufs_sub .., binary_bufs_sub .., unary_bufs_sub .., unary_bufs_sub .., nullary_bufs_sub .., binaryIndexed_bufs_sub .., nullary_bufs_sub ..,
  binary_bufs_sub .., unary_bufs_sub .., unary_bufs_sub .., unary_bufs_sub ..⟩

theorem body1Ops_plain : Plain [body1Ops (F := F)] :=
  .cons body1Ops_sub .nil (List.forall_iff_forall_mem.mp (show (body1Ops (F := F)).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩))

/-- The operations after the second loop. -/
abbrev postOps : List (HloOp τ sig (Elt F)) := [
  unary main_v14_4 main_v15 ((transpose S4096x384 [1, 0] · transposes_S384x4096_S4096x384_1_0) : C F S384x4096 .f32 → C F S4096x384 .f32),
  unary main_v15 main_v16 ((extractStridedSlice S4096x128 ![0, 128] · slices_S4096x384_S4096x128_0_128) : C F S4096x384 .f32 → C F S4096x128 .f32)]

theorem postOps_sub : (postOps (F := F)).Forall fun op => op.bufs ⊆ tcRefs τ sig :=
  ⟨unary_bufs_sub .., unary_bufs_sub ..⟩

theorem postOps_plain : Plain [postOps (F := F)] :=
  .cons postOps_sub .nil (List.forall_iff_forall_mem.mp (show (postOps (F := F)).Forall fun op => op.fresh = ∅ from
    ⟨rfl, rfl⟩))

end Cert.ReferenceIdeal.Ops

end
-- ==== Proof.RI.TwoLoops.lean ====
/-
  The run of a host program with two counted loops: operations, a loop, operations, a second loop, operations. Every
  buffer ends at the fold of the operations, each loop's gone round as often as its condition says.
-/
module

public import Idealize.ShloMosaic.Lib.StableHlo.RunLoop

@[expose] public section

noncomputable section

namespace Cert.TwoLoops

open Idealize.ShloMosaic Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open TcCoe
open Idealize.ShloMosaic.Pipeline (CSeg Ticket PCfg ucRefs unscopedBufs_held sub_ucRefs)

variable {nD : Nat} {τ : Topo} {sig : RefSig} {F : FTy → Type} {Λ₀ : Idealize.SL.Sem.Labels}

local notation "𝕄" => MT nD τ sig Unit (Elt F) ℕ (Option PUnit) ℕ

variable (pcs : Fin 0 → PCfg sig Λ₀ (Elt F)) (defs₀ : Defs nD τ sig (Elt F) Λ₀) {nL : Nat}
  (loops : Fin nL → Prog (TpuEff nD τ sig (Elt F) (HostLoop.Sig (Pipeline.Sig Λ₀ (Fin 0) fun p => (pcs p).Adm) nL) .tc) PUnit)

/-- Regions of a program over these loops. -/
abbrev Reg (R : Type) := Prog (TpuEff nD τ sig (Elt F) (HostLoop.Sig (Pipeline.Sig Λ₀ (Fin 0) fun p => (pcs p).Adm) nL) .tc) R

abbrev noAdm : (p : Fin 0) → (pcs p).Adm := fun p => p.elim0
abbrev noTicket : Fin 0 → Ticket (Ix := Unit) (Name := ℕ) (U := Option PUnit) (Lvl := ℕ) (nD := nD) (τ := τ) pcs (noAdm pcs) := fun j => j.elim0
abbrev noDuty : GSem nD τ sig → Finset Unit := fun _ => ∅
abbrev noLevel : GSem nD τ sig → Unit → ℕ := fun _ _ => 0

/-- What a core keeps beside its buffers: that it owes nothing. -/
abbrev debt (c : Dev nD) : sProp 𝕄 := iprop(∃ W, owes (c : Thread nD τ) (0 : CellTallies nD τ sig Unit) W)

/-- One loop: its label, its condition and body as printed and as lists of operations, and its number of trips. -/
structure Loop where
  l : Fin nL
  cond : Reg (nD := nD) (τ := τ) (nL := nL) pcs (Elt F .i1)
  body : Reg (nD := nD) (τ := τ) (nL := nL) pcs PUnit
  condOps : List (HloOp τ sig (Elt F))
  bodyOps : List (HloOp τ sig (Elt F))
  n : ℕ
  hloops : loops l = HostLoop.step l cond body
  plain : Plain [bodyOps]
  hbody : body = Pipeline.chain [seq bodyOps]

variable {pcs loops}

/-- Every buffer when the loop is left: its trips round from `W`, then the failing condition's operations. -/
def Loop.leave (A : Loop (nD := nD) (τ := τ) pcs loops) (W : Dev nD → Valuation τ sig (Elt F)) (c : Dev nD) : Valuation τ sig (Elt F) :=
  after A.condOps (atTrip A.condOps [A.bodyOps] W A.n c)

/-- The condition's specification from `W`: at run `k` it says whether `k` is below the number of trips. -/
abbrev Loop.Spec (A : Loop (nD := nD) (τ := τ) pcs loops) (W : Dev nD → Valuation τ sig (Elt F)) : Prop :=
  CondSpec pcs defs₀ loops A.cond A.condOps [A.bodyOps] W A.n

/-- A condition meets its specification with the debt carried along. -/
theorem Loop.spec_debt (A : Loop (nD := nD) (τ := τ) pcs loops) (W : Dev nD → Valuation τ sig (Elt F)) (h : A.Spec defs₀ W) :
    LoopCond pcs defs₀ Variants.none loops debt A.cond A.condOps [A.bodyOps] W A.n := fun k hk c bd => by
  have hc := (sep_mono_left (Q := debt (F := F) c) (h k hk c bd)).trans (wp_frame_r _ _ _)
  refine BIBase.Entails.trans ?_ (hc.trans (wp_mono _ _ _ fun v => ?_))
  · iintro ⟨Hb, Hh, HR⟩
    isplitl [Hb Hh]
    · isplitl [Hb] <;> iassumption
    iexact HR
  · iintro ⟨⟨%hv, Hb, Hh⟩, HR⟩
    isplitr; · ipureintro; exact hv
    isplitl [Hb]; · iexact Hb
    isplitl [Hh] <;> iassumption

/-- The loop as one segment of the run. -/
def Loop.seg (A : Loop (nD := nD) (τ := τ) pcs loops) (W : Dev nD → Valuation τ sig (Elt F)) (h : A.Spec defs₀ W) :
    CSeg pcs (noAdm pcs) defs₀ Variants.none noDuty noLevel loops (noTicket pcs) :=
  loopSeg _ _ _ _ _ _ _ _ A.l A.cond A.body A.hloops A.condOps [A.bodyOps] A.plain A.hbody A.n W debt (A.spec_debt defs₀ W h)

/-- A stretch of operations as segments of the run, from `W`. -/
abbrev stretch (ops : List (HloOp τ sig (Elt F))) (h : Plain [ops]) (W : Dev nD → Valuation τ sig (Elt F)) :
    List (CSeg pcs (noAdm pcs) defs₀ Variants.none noDuty noLevel loops (noTicket pcs)) :=
  segsOf _ _ _ _ _ _ _ _ debt [ops] h W

/-- THE RUN: every unscoped buffer ends at the fold through both loops. -/
theorem run [∀ e, Nonempty (Elt F e)] (main : Dev nD → Reg (nD := nD) (τ := τ) (nL := nL) pcs PUnit)
    (A B : Loop (nD := nD) (τ := τ) pcs loops) (pre mid post : List (HloOp τ sig (Elt F)))
    (hpre : Plain [pre]) (hmid : Plain [mid]) (hpost : Plain [post])
    (hmain : ∀ c, main c = Pipeline.chain [seq pre, HostLoop.enter A.l, seq mid, HostLoop.enter B.l, seq post])
    (m : (ℓ : Loc nD τ sig) → Buf (Elt F) ℓ) (ρ : Dev nD → PrngReg)
    (W₀ W₁ : Dev nD → Valuation τ sig (Elt F)) (hW₀ : W₀ = fun c => after pre (launchContents m c)) (hW₁ : W₁ = fun c => after mid (A.leave W₀ c))
    (hA : A.Spec defs₀ W₀) (hB : B.Spec defs₀ W₁) :
    θ_run (HostLoop.defs loops (Pipeline.defs pcs defs₀)) (onTc (τ := τ) main) ⟨m, fun _ => 0, ρ⟩
      (fun r => ∀ (c : Dev nD) (b : Ref sig .tc), (Proc.devRef .tc b : DevRef τ sig).isScoped = false →
        r.2.mem ((c.tc : Thread nD τ).loc b) = after post (B.leave W₁ c) (Proc.devRef .tc b)) := by
  subst hW₀ hW₁
  have segs : ∃ s : List (CSeg pcs (noAdm pcs) defs₀ Variants.none noDuty noLevel loops (noTicket pcs)),
      (s.map CSeg.prog = [seq pre, HostLoop.enter A.l, seq mid, HostLoop.enter B.l, seq post]) ∧ (∀ x ∈ s, x.T = ∅) ∧
      CSeg.Chains (fun c => iprop(held (c : Thread nD τ) (ucRefs τ sig) (launchContents m c) ∗ debt c)) s
        (fun c => iprop(iprop(held (c : Thread nD τ) (ucRefs τ sig) (after post (B.leave (fun c => after mid (A.leave (fun c => after pre (launchContents m c)) c)) c)))
          ∗ ∃ W, owes (c : Thread nD τ) (0 : CellTallies nD τ sig Unit) W)) :=
    ⟨stretch defs₀ pre hpre (launchContents m)
        ++ (A.seg defs₀ _ hA :: stretch defs₀ mid hmid (A.leave fun c => after pre (launchContents m c)))
        ++ (B.seg defs₀ _ hB :: stretch defs₀ post hpost (B.leave fun c => after mid (A.leave (fun c => after pre (launchContents m c)) c))),
      by simp only [List.map_append, List.map_cons, stretch, segsOf_prog]; rfl,
      fun x _ => Finset.eq_empty_of_isEmpty x.T,
      Pipeline.CSeg.Chains.append
        (Pipeline.CSeg.Chains.append (segsOf_chains _ _ _ _ _ _ _ _ debt [pre] hpre _) ⟨fun _ => .rfl, segsOf_chains _ _ _ _ _ _ _ _ debt [mid] hmid _⟩)
        ⟨fun _ => .rfl, segsOf_chains _ _ _ _ _ _ _ _ debt [post] hpost _⟩⟩
  obtain ⟨s, hprog, hT, hch⟩ := segs
  exact Pipeline.θ_run_regions_loop_kit (Ix := Unit) (Name := ℕ) (U := Option PUnit) (Lvl := ℕ) (J := Fin 0) (P := Fin 0) (Val := Elt F)
    pcs (noAdm pcs) (fun k => k.1.elim0) defs₀ Variants.none noDuty noLevel loops (noTicket pcs) m ρ main s
    (fun c Q => by
      rw [hmain c]
      show wp _ _ _ (Pipeline.chain (s.map CSeg.prog)) Q ⊢ _
      rw [hprog])
    (Pipeline.CSeg.pairwise_disjoint_of_T_empty _ hT)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ debt c))
    (Tₙ := fun c => iprop(held (c : Thread nD τ) (ucRefs τ sig) (after post (B.leave (fun c => after mid (A.leave (fun c => after pre (launchContents m c)) c)) c))))
    (hch := hch)
    (hinit := by
      refine Pipeline.initEach noDuty noLevel fun c => ?_
      rw [show unscopedBufs c (fun b => m ((c : Thread nD τ).loc b)) = held (c : Thread nD τ) (ucRefs τ sig) (launchContents m c) from unscopedBufs_held c (launchContents m c)]
      iintro ⟨⟨Hh, -, HO, -, -, -⟩, -⟩
      imodintro
      isplitl [Hh]; · iexact Hh
      iexists ∅; iexact HO)
    (QY := fun c st => ∀ b ∈ ucRefs τ sig, st.mem ((c : Dev nD), b) = after post (B.leave (fun c => after mid (A.leave (fun c => after pre (launchContents m c)) c)) c) b)
    (hfin := fun c st => by
      unfold held
      iintro ⟨Hh, HSI⟩
      ihave Hr := (pointsTo_read_all (ucRefs τ sig) (fun b => ((c : Dev nD), b)) (fun b => after post (B.leave (fun c => after mid (A.leave (fun c => after pre (launchContents m c)) c)) c) b) st) $$ [Hh HSI]
      · isplitl [Hh] <;> iassumption
      icases Hr with ⟨%h, HSI⟩
      imodintro
      isplitr; · ipureintro; exact h
      iexact HSI)
    (hQ := fun _ h c b hb => h c _ (devRef_mem_ucRefs b hb))

end Cert.TwoLoops

end
-- ==== Proof.RI.Run.lean ====
/-
  The reference's run: through both loops, 384 trips each, to the fold of its operations over the launch's contents.
-/
module

public import proofs.«01_k».proof.Proof.RI.Ops
public import proofs.«01_k».proof.Proof.RI.TwoLoops
public import Idealize.ShloMosaic.Lib.StableHlo.RunRead
public import Idealize.ShloMosaic.Lib.StableHlo.RunHlo
public import Idealize.ShloMosaic.Lib.Quiescent
public import Idealize.ShloMosaic.Lib.Tactic

@[expose] public section

set_option maxRecDepth 16384

noncomputable section

namespace Cert.ReferenceIdeal.Run

open Cert.ReferenceIdeal Cert.ReferenceIdeal.Ops
open Idealize.ShloMosaic Idealize.ShloMosaic.StableHlo
open Idealize.SL Idealize.SL.RA Idealize.SL.BI
open scoped Idealize.SL.BI
open Idealize.SL.BI.BIBase Idealize.SL.BI.Laws Idealize.SL.ProofMode Idealize.SL.Sem
open TcCoe
open Idealize.ShloMosaic.Pipeline (ucRefs sub_ucRefs)

variable {F : FTy → Type} [FloatOps F]

local notation "𝕄" => MT nD τ sig Unit (Elt F) ℕ (Option PUnit) ℕ

/-- A call before the rest of a straight line: the callee's operations, then the rest's. -/
theorem isSeq_call {p k : Prog (TpuEff nD τ sig (Elt F) (HostLoop.Sig (Pipeline.Sig Λ₀ (Fin 0) fun p => (pcfgs (F := F) p).Adm) 2) .tc) PUnit}
    {a b ops : List (HloOp τ sig (Elt F))} (hp : IsSeq p a) (ho : ops = a ++ b) (hk : IsSeq k b) : IsSeq (p >>= fun _ => k) ops := by
  unfold IsSeq at hp hk ⊢
  subst hp hk ho
  exact (seq_append a b).symm

theorem bodyA_eq : main_while0_body (F := F) = Pipeline.chain [seq body0Ops] := by
  refine Eq.trans (b := seq body0Ops) ?_ (bind_pure _).symm
  show IsSeq _ _
  unfold main_while0_body
  repeat first
    | exact IsSeq.nil
    | with_reducible apply IsSeq.cons
    | refine isSeq_call (by unfold fn_dynamic_index_in_dim.body; hlo_seq) rfl ?_
    | refine isSeq_call (by unfold fn_argmax.body; hlo_seq) rfl ?_
    | refine isSeq_call (by unfold fn_dynamic_update_index_in_dim.body; hlo_seq) rfl ?_

theorem bodyB_eq : main_while1_body (F := F) = Pipeline.chain [seq body1Ops] := by
  refine Eq.trans (b := seq body1Ops) ?_ (bind_pure _).symm
  show IsSeq _ _
  unfold main_while1_body
  repeat first
    | exact IsSeq.nil
    | with_reducible apply IsSeq.cons
    | refine isSeq_call (by unfold fn_dynamic_index_in_dim_0.body; hlo_seq) rfl ?_
    | refine isSeq_call (by unfold fn_remainder.body fn_where.body; hlo_seq) rfl ?_
    | refine isSeq_call (by unfold fn_dynamic_update_index_in_dim_1.body; hlo_seq) rfl ?_

/-- The first loop. -/
abbrev loopA : Cert.TwoLoops.Loop (nD := nD) (τ := τ) (F := F) (pcfgs (F := F)) loops where
  l := 0
  cond := main_while0_cond
  body := main_while0_body
  condOps := cond0Ops
  bodyOps := body0Ops
  n := 384
  hloops := rfl
  plain := body0Ops_plain
  hbody := bodyA_eq

/-- The second loop. -/
abbrev loopB : Cert.TwoLoops.Loop (nD := nD) (τ := τ) (F := F) (pcfgs (F := F)) loops where
  l := 1
  cond := main_while1_cond
  body := main_while1_body
  condOps := cond1Ops
  bodyOps := body1Ops
  n := 384
  hloops := rfl
  plain := body1Ops_plain
  hbody := bodyB_eq

theorem main_eq (c : Dev nD) :
    main (F := F) c = Pipeline.chain [seq preOps, HostLoop.enter 0, seq midOps, HostLoop.enter 1, seq postOps] := by sl_kernel_rfl

/-- A counter below 384 passes the test, and 384 does not. -/
theorem test_iff (k : ℕ) (hk : k ≤ 384) : IntOp.cmpi .slt (BitVec.ofNat 32 k) 384#32 = 1#1 ↔ k < 384 := by
  have h : ∀ j : Fin 385, IntOp.cmpi .slt (BitVec.ofNat 32 j.val) 384#32 = 1#1 ↔ j.val < 384 := by decide
  exact h ⟨k, by omega⟩

section Counters

variable (W : Dev nD → Valuation τ sig (Elt F)) (k : ℕ) (c : Dev nD)

/-- The buffers at the first loop's trip `k`, entered from `W`. -/
abbrev atA (k : ℕ) (c : Dev nD) : Valuation τ sig (Elt F) := atTrip cond0Ops [body0Ops] W k c

/-- The buffers at the second loop's trip `k`, entered from `W`. -/
abbrev atB (k : ℕ) (c : Dev nD) : Valuation τ sig (Elt F) := atTrip cond1Ops [body1Ops] W k c

theorem stepA_ctr (X : Valuation τ sig (Elt F)) :
    after body0Ops (after cond0Ops X) (Proc.devRef .tc main_v10_4) = addi (X (Proc.devRef .tc main_v10_4)) (constantI S_ 32 1#32) := by
  after_reads_simp
  rfl

theorem stepB_ctr (X : Valuation τ sig (Elt F)) :
    after body1Ops (after cond1Ops X) (Proc.devRef .tc main_v14_2) = addi (X (Proc.devRef .tc main_v14_2)) (constantI S_ 32 1#32) := by
  after_reads_simp
  rfl

/-- The first loop's counter at trip `k`. -/
theorem ctrA (h0 : W c (Proc.devRef .tc main_v10_4) = constantI S_ 32 0#32) : ∀ k, atA W k c (Proc.devRef .tc main_v10_4) = constantI S_ 32 (BitVec.ofNat 32 k)
  | 0 => h0
  | k + 1 => by
    show after body0Ops (after cond0Ops (atA W k c)) (Proc.devRef .tc main_v10_4) = _
    rw [stepA_ctr, ctrA h0 k]
    funext _
    show BitVec.ofNat 32 k + 1#32 = BitVec.ofNat 32 (k + 1)
    rw [BitVec.ofNat_add]

/-- The second loop's counter at trip `k`. -/
theorem ctrB (h0 : W c (Proc.devRef .tc main_v14_2) = constantI S_ 32 0#32) : ∀ k, atB W k c (Proc.devRef .tc main_v14_2) = constantI S_ 32 (BitVec.ofNat 32 k)
  | 0 => h0
  | k + 1 => by
    show after body1Ops (after cond1Ops (atB W k c)) (Proc.devRef .tc main_v14_2) = _
    rw [stepB_ctr, ctrB h0 k]
    funext _
    show BitVec.ofNat 32 k + 1#32 = BitVec.ofNat 32 (k + 1)
    rw [BitVec.ofNat_add]

end Counters

theorem specA (W : Dev nD → Valuation τ sig (Elt F)) (h0 : ∀ c, W c (Proc.devRef .tc main_v10_4) = constantI S_ 32 0#32) :
    (loopA (F := F)).Spec defs₀ W := fun k hk c bd => by
  have hctr := ctrA W c (h0 c) k
  show _ ⊢ wp _ _ _ (main_while0_cond (F := F)) _
  unfold main_while0_cond
  rw [wp_bind]
  iintro ⟨Hb, Hh⟩
  iapply (StableHlo.wp_hlo_within (Variants.lift Variants.none) (c : Thread nD τ) bd Set.univ (sub_ucRefs _ (StableHlo.nullary_bufs_sub ..))) $$ [Hb Hh]
  · isplitl [Hb] <;> iassumption
  iintro ⟨Hb, Hh⟩
  rw [wp_ret]; imodintro
  simp only [bind_pure]
  iapply (StableHlo.wp_hlo_within (Variants.lift Variants.none) (c : Thread nD τ) bd Set.univ (sub_ucRefs _ (StableHlo.binary_bufs_sub ..))) $$ [Hb Hh]
  · isplitl [Hb] <;> iassumption
  iintro ⟨Hb, Hh⟩
  erw [HostLoop.elt_apply, wp_ret]; imodintro
  isplitr
  · ipureintro
    show Iff (IntOp.cmpi .slt (HloOp.result _ (atA W k c) (Proc.devRef .tc main_v10_4) HostLoop.idx0)
        (HloOp.result _ (atA W k c) (Proc.devRef .tc main_while0c_c_16) HostLoop.idx0) = 1#1) (k < 384)
    rw [StableHlo.nullary_result_ne _ _ _ _ (by decide), StableHlo.nullary_result, hctr]
    exact test_iff k hk
  isplitl [Hb]; · iexact Hb
  iexact Hh

theorem specB (W : Dev nD → Valuation τ sig (Elt F)) (h0 : ∀ c, W c (Proc.devRef .tc main_v14_2) = constantI S_ 32 0#32) :
    (loopB (F := F)).Spec defs₀ W := fun k hk c bd => by
  have hctr := ctrB W c (h0 c) k
  show _ ⊢ wp _ _ _ (main_while1_cond (F := F)) _
  unfold main_while1_cond
  rw [wp_bind]
  iintro ⟨Hb, Hh⟩
  iapply (StableHlo.wp_hlo_within (Variants.lift Variants.none) (c : Thread nD τ) bd Set.univ (sub_ucRefs _ (StableHlo.nullary_bufs_sub ..))) $$ [Hb Hh]
  · isplitl [Hb] <;> iassumption
  iintro ⟨Hb, Hh⟩
  rw [wp_ret]; imodintro
  simp only [bind_pure]
  iapply (StableHlo.wp_hlo_within (Variants.lift Variants.none) (c : Thread nD τ) bd Set.univ (sub_ucRefs _ (StableHlo.binary_bufs_sub ..))) $$ [Hb Hh]
  · isplitl [Hb] <;> iassumption
  iintro ⟨Hb, Hh⟩
  erw [HostLoop.elt_apply, wp_ret]; imodintro
  isplitr
  · ipureintro
    show Iff (IntOp.cmpi .slt (HloOp.result _ (atB W k c) (Proc.devRef .tc main_v14_2) HostLoop.idx0)
        (HloOp.result _ (atB W k c) (Proc.devRef .tc main_while1c_c_13) HostLoop.idx0) = 1#1) (k < 384)
    rw [StableHlo.nullary_result_ne _ _ _ _ (by decide), StableHlo.nullary_result, hctr]
    exact test_iff k hk
  isplitl [Hb]; · iexact Hb
  iexact Hh

section Contents

variable (m : (ℓ : Loc nD τ sig) → Buf (Elt F) ℓ)

/-- Every buffer as the first loop is entered. -/
def entryA (c : Dev nD) : Valuation τ sig (Elt F) := after preOps (launchContents m c)

/-- Every buffer as the second loop is entered. -/
def entryB (c : Dev nD) : Valuation τ sig (Elt F) := after midOps (after cond0Ops (atA (entryA m) 384 c))

/-- Every buffer at the end. -/
def final (c : Dev nD) : Valuation τ sig (Elt F) := after postOps (after cond1Ops (atB (entryB m) 384 c))

theorem entryA_ctr (c : Dev nD) : entryA m c (Proc.devRef .tc main_v10_4) = constantI S_ 32 0#32 := by
  unfold entryA
  after_reads_simp
  rfl

theorem entryB_ctr (c : Dev nD) : entryB m c (Proc.devRef .tc main_v14_2) = constantI S_ 32 0#32 := by
  unfold entryB
  after_reads_simp
  rfl

/-- THE RUN of the reference. -/
theorem run_main (ρ : Dev nD → PrngReg) :
    θ_run (defs (F := F)) (onTc (τ := τ) (main (F := F))) ⟨m, fun _ => 0, ρ⟩
      (fun r => ∀ (c : Dev nD) (b : Ref sig .tc), (Proc.devRef .tc b : DevRef τ sig).isScoped = false →
        r.2.mem ((c.tc : Thread nD τ).loc b) = final m c (Proc.devRef .tc b)) :=
  Cert.TwoLoops.run (F := F) defs₀ main loopA loopB preOps midOps postOps preOps_plain midOps_plain postOps_plain
    main_eq m ρ (entryA m) (entryB m) rfl rfl (specA _ (entryA_ctr m)) (specB _ (entryB_ctr m))

theorem stepA_arg (X : Valuation τ sig (Elt F)) :
    after body0Ops (after cond0Ops X) (Proc.devRef .tc main_arg0) = X (Proc.devRef .tc main_arg0) := by
  after_reads_simp

theorem stepB_arg (X : Valuation τ sig (Elt F)) :
    after body1Ops (after cond1Ops X) (Proc.devRef .tc main_arg0) = X (Proc.devRef .tc main_arg0) := by
  after_reads_simp

theorem atA_arg (W : Dev nD → Valuation τ sig (Elt F)) (c : Dev nD) : ∀ k, atA W k c (Proc.devRef .tc main_arg0) = W c (Proc.devRef .tc main_arg0)
  | 0 => rfl
  | k + 1 => (stepA_arg (atA W k c)).trans (atA_arg W c k)

theorem atB_arg (W : Dev nD → Valuation τ sig (Elt F)) (c : Dev nD) : ∀ k, atB W k c (Proc.devRef .tc main_arg0) = W c (Proc.devRef .tc main_arg0)
  | 0 => rfl
  | k + 1 => (stepB_arg (atB W k c)).trans (atB_arg W c k)

/-- The argument ends as it was. -/
theorem final_arg (c : Dev nD) : final m c (Proc.devRef .tc main_arg0) = m ((c.tc : Thread nD τ).loc main_arg0) := by
  have h1 : final m c (Proc.devRef .tc main_arg0) = atB (entryB m) 384 c (Proc.devRef .tc main_arg0) := by
    unfold final; generalize atB (entryB m) 384 c = X; after_reads_simp
  have h2 : entryB m c (Proc.devRef .tc main_arg0) = atA (entryA m) 384 c (Proc.devRef .tc main_arg0) := by
    unfold entryB; generalize atA (entryA m) 384 c = X; after_reads_simp
  have h3 : entryA m c (Proc.devRef .tc main_arg0) = m ((c.tc : Thread nD τ).loc main_arg0) := by
    unfold entryA; after_reads_simp
  rw [h1, atB_arg, h2, atA_arg, h3]

/-- The reference ends with its argument as it was and every counter at zero. -/
theorem frame (ρ : Dev nD → PrngReg) :
    θ_run (defs (F := F)) (onTc (τ := τ) (main (F := F))) ⟨m, fun _ => 0, ρ⟩
      (fun r => (∀ c : Dev nD, r.2.mem ((c.tc : Thread nD τ).loc main_arg0) = m ((c.tc : Thread nD τ).loc main_arg0)) ∧ r.2.sem = fun _ => 0) :=
  (θ_run _ _ _).mono (fun r h => ⟨fun c => (h c main_arg0 rfl).trans (final_arg m c), sem_eq_zero_of_no_sems (by decide) r.2⟩) (run_main m ρ)

end Contents

end Cert.ReferenceIdeal.Run

end
-- ==== Proof.PI.Steps.lean ====
/-
  The kernel's steps as functions of their operands: one decoding step in each of its three layouts, the packing of a
  step's decisions into words, and one step of the walk back.
-/
module

public import proofs.«01_k».proof.Proof.Gen.KernelIdeal.Loops

@[expose] public section

set_option maxRecDepth 8192
set_option maxHeartbeats 4000000

noncomputable section

namespace Cert.KernelIdeal.Steps

open Cert.KernelIdeal Cert.KernelIdeal.Gen
open Idealize.ShloMosaic

variable {F : FTy → Type} [FloatOps F]

/-! ### Values coming in -/

/-- A block of eight rows, clipped to [-20, 20] and rounded. -/
def clipped (v : Vec F S1x8x4096 .f32) : FVec F S8x4096 .bf16 :=
  truncf .bf16 (minimumf (broadcast S8x4096 (Scalar.ofBits .f32 0x41A00000#32)) (maximumf (broadcast S8x4096 (Scalar.ofBits .f32 0xC1A00000#32)) (shapeCast S8x4096 v shapeCasts_S1x8x4096_S8x4096))) bitsLt_bf16_f32

theorem sliceRow : ∀ i : Fin 8, S8x4096.Slices ![i.val, 0] S1x4096 := by decide

/-- Row `i` of two blocks, one above the other. -/
def pair (i : Fin 8) (a b : FVec F S8x4096 .bf16) : FVec F S2x4096 .bf16 :=
  concatenate S2x4096 0 [⟨S1x4096, extractStridedSlice S1x4096 ![i.val, 0] a (sliceRow i)⟩, ⟨S1x4096, extractStridedSlice S1x4096 ![i.val, 0] b (sliceRow i)⟩] concatenates_S1x4096_S1x4096_S2x4096_d0

/-! ### One step in each layout -/

theorem sliceSigns : ∀ k : Fin 3, S192x2.Slices ![64 * k.val, 0] S64x2 := by decide
theorem sliceWeights : ∀ k : Fin 3, S12x64.Slices ![4 * k.val, 0] S4x64 := by decide

/-- The branch values of layout `k`: its signs times the pair of received values. -/
def branch (k : Fin 3) (S : Vec F S192x2 .bf16) (x : FVec F S2x4096 .bf16) : FVec F S64x4096 .f32 :=
  matmul dot_S64x2_S2x4096_S64x4096_1_0_0_1_n_n none (extractStridedSlice S64x2 ![64 * k.val, 0] S (sliceSigns k)) x (constant S64x4096 .f32 0x00000000#32)

/-- The first predecessor of every row, layout 0. -/
def low0 (p : FVec F S64x4096 .f32) : FVec F S64x4096 .f32 :=
  concatenate S64x4096 0 [⟨S32x4096, extractStridedSlice S32x4096 ![0, 0] p slices_S64x4096_o0_0_S32x4096⟩, ⟨S32x4096, extractStridedSlice S32x4096 ![0, 0] p slices_S64x4096_o0_0_S32x4096⟩] concatenates_S32x4096_S32x4096_S64x4096_d0
/-- The second predecessor of every row, layout 0. -/
def high0 (p : FVec F S64x4096 .f32) : FVec F S64x4096 .f32 :=
  concatenate S64x4096 0 [⟨S32x4096, extractStridedSlice S32x4096 ![32, 0] p slices_S64x4096_o32_0_S32x4096⟩, ⟨S32x4096, extractStridedSlice S32x4096 ![32, 0] p slices_S64x4096_o32_0_S32x4096⟩] concatenates_S32x4096_S32x4096_S64x4096_d0
/-- The first predecessor of every row, layout 1. -/
def low1 (p : FVec F S64x4096 .f32) : FVec F S64x4096 .f32 :=
  concatenate S64x4096 0 [⟨S16x4096, extractStridedSlice S16x4096 ![0, 0] p slices_S64x4096_o0_0_S16x4096⟩, ⟨S16x4096, extractStridedSlice S16x4096 ![0, 0] p slices_S64x4096_o0_0_S16x4096⟩, ⟨S16x4096, extractStridedSlice S16x4096 ![32, 0] p slices_S64x4096_o32_0_S16x4096⟩, ⟨S16x4096, extractStridedSlice S16x4096 ![32, 0] p slices_S64x4096_o32_0_S16x4096⟩] concatenates_S16x4096_S16x4096_S16x4096_S16x4096_S64x4096_d0
/-- The second predecessor of every row, layout 1. -/
def high1 (p : FVec F S64x4096 .f32) : FVec F S64x4096 .f32 :=
  concatenate S64x4096 0 [⟨S16x4096, extractStridedSlice S16x4096 ![16, 0] p slices_S64x4096_o16_0_S16x4096⟩, ⟨S16x4096, extractStridedSlice S16x4096 ![16, 0] p slices_S64x4096_o16_0_S16x4096⟩, ⟨S16x4096, extractStridedSlice S16x4096 ![48, 0] p slices_S64x4096_o48_0_S16x4096⟩, ⟨S16x4096, extractStridedSlice S16x4096 ![48, 0] p slices_S64x4096_o48_0_S16x4096⟩] concatenates_S16x4096_S16x4096_S16x4096_S16x4096_S64x4096_d0
/-- The first predecessor of every row, layout 2. -/
def low2 (p : FVec F S64x4096 .f32) : FVec F S64x4096 .f32 :=
  concatenate S64x4096 0 [⟨S8x4096, extractStridedSlice S8x4096 ![0, 0] p slices_S64x4096_o0_0_S8x4096⟩, ⟨S8x4096, extractStridedSlice S8x4096 ![0, 0] p slices_S64x4096_o0_0_S8x4096⟩, ⟨S8x4096, extractStridedSlice S8x4096 ![16, 0] p slices_S64x4096_o16_0_S8x4096⟩, ⟨S8x4096, extractStridedSlice S8x4096 ![16, 0] p slices_S64x4096_o16_0_S8x4096⟩, ⟨S8x4096, extractStridedSlice S8x4096 ![32, 0] p slices_S64x4096_o32_0_S8x4096⟩, ⟨S8x4096, extractStridedSlice S8x4096 ![32, 0] p slices_S64x4096_o32_0_S8x4096⟩, ⟨S8x4096, extractStridedSlice S8x4096 ![48, 0] p slices_S64x4096_o48_0_S8x4096⟩, ⟨S8x4096, extractStridedSlice S8x4096 ![48, 0] p slices_S64x4096_o48_0_S8x4096⟩] concatenates_S8x4096_S8x4096_S8x4096_S8x4096_S8x4096_S8x4096_S8x4096_S8x4096_S64x4096_d0
/-- The second predecessor of every row, layout 2. -/
def high2 (p : FVec F S64x4096 .f32) : FVec F S64x4096 .f32 :=
  concatenate S64x4096 0 [⟨S8x4096, extractStridedSlice S8x4096 ![8, 0] p slices_S64x4096_o8_0_S8x4096⟩, ⟨S8x4096, extractStridedSlice S8x4096 ![8, 0] p slices_S64x4096_o8_0_S8x4096⟩, ⟨S8x4096, extractStridedSlice S8x4096 ![24, 0] p slices_S64x4096_o24_0_S8x4096⟩, ⟨S8x4096, extractStridedSlice S8x4096 ![24, 0] p slices_S64x4096_o24_0_S8x4096⟩, ⟨S8x4096, extractStridedSlice S8x4096 ![40, 0] p slices_S64x4096_o40_0_S8x4096⟩, ⟨S8x4096, extractStridedSlice S8x4096 ![40, 0] p slices_S64x4096_o40_0_S8x4096⟩, ⟨S8x4096, extractStridedSlice S8x4096 ![56, 0] p slices_S64x4096_o56_0_S8x4096⟩, ⟨S8x4096, extractStridedSlice S8x4096 ![56, 0] p slices_S64x4096_o56_0_S8x4096⟩] concatenates_S8x4096_S8x4096_S8x4096_S8x4096_S8x4096_S8x4096_S8x4096_S8x4096_S64x4096_d0

/-- The first predecessor of every row. -/
def low (k : Fin 3) (p : FVec F S64x4096 .f32) : FVec F S64x4096 .f32 := match k with | 0 => low0 p | 1 => low1 p | 2 => low2 p
/-- The second predecessor of every row. -/
def high (k : Fin 3) (p : FVec F S64x4096 .f32) : FVec F S64x4096 .f32 := match k with | 0 => high0 p | 1 => high1 p | 2 => high2 p

/-- The path value through the first predecessor. -/
def cand0 (k : Fin 3) (S : Vec F S192x2 .bf16) (x : FVec F S2x4096 .bf16) (p : FVec F S64x4096 .f32) : FVec F S64x4096 .f32 := addf (low k p) (branch k S x)
/-- The path value through the second predecessor. -/
def cand1 (k : Fin 3) (S : Vec F S192x2 .bf16) (x : FVec F S2x4096 .bf16) (p : FVec F S64x4096 .f32) : FVec F S64x4096 .f32 := subf (high k p) (branch k S x)

/-- Every column less its greatest entry. -/
def level (q : FVec F S64x4096 .f32) : FVec F S64x4096 .f32 :=
  subf q (broadcastTo S64x4096 (shapeCast S1x4096 (multiReduction .maximumf [0] S4096 q 0xFF800000#32 reduces_S64x4096_S4096 (.inl rfl) rfl) shapeCasts_S4096_S1x4096) broadcasts_S1x4096_S64x4096)

/-- From layout 3 back to layout 0. -/
def restore (q : FVec F S64x4096 .f32) : FVec F S64x4096 .f32 :=
  shapeCast S64x4096 (transpose S8x8x4096 [1, 0, 2] (shapeCast S8x8x4096 q shapeCasts_S64x4096_S8x8x4096) transposes_S8x8x4096_p1_0_2_S8x8x4096) shapeCasts_S8x8x4096_S64x4096

/-- The better of the two paths, levelled. -/
def best (k : Fin 3) (S : Vec F S192x2 .bf16) (x : FVec F S2x4096 .bf16) (p : FVec F S64x4096 .f32) : FVec F S64x4096 .f32 :=
  level (maximumf (cand0 k S x p) (cand1 k S x p))

/-- One step: after layout 2 the rows go back to layout 0. -/
def step (k : Fin 3) (S : Vec F S192x2 .bf16) (x : FVec F S2x4096 .bf16) (p : FVec F S64x4096 .f32) : FVec F S64x4096 .f32 :=
  match k with | 0 => best 0 S x p | 1 => best 1 S x p | 2 => restore (best 2 S x p)

/-- The layout of the step that comes at place `u` of a block of 24. -/
def lay (u : ℕ) : Fin 3 := ⟨u % 3, Nat.mod_lt _ (by decide)⟩
/-- Its row in its group of eight. -/
def row (u : ℕ) : Fin 8 := ⟨u % 8, Nat.mod_lt _ (by decide)⟩

/-- The values received at place `u`, from the three groups of eight rows of the block. -/
def recv (A B : ℕ → Vec F S1x8x4096 .f32) (u : ℕ) : FVec F S2x4096 .bf16 := pair (row u) (clipped (A (u / 8))) (clipped (B (u / 8)))

/-- The path values after `u` steps of a block. -/
def paths (S : Vec F S192x2 .bf16) (A B : ℕ → Vec F S1x8x4096 .f32) (p : FVec F S64x4096 .f32) : ℕ → FVec F S64x4096 .f32
  | 0 => p
  | u + 1 => step (lay u) S (recv A B u) (paths S A B p u)

/-! ### The decisions of a step, packed -/

/-- Four words of sixteen decisions each, one row per word. -/
def quads (k : Fin 3) (S : Vec F S192x2 .bf16) (W : Vec F S12x64 .bf16) (x : FVec F S2x4096 .bf16) (p : FVec F S64x4096 .f32) : IVec S4x4096 32 :=
  fptosi 32 (matmul dot_S4x64_S64x4096_S4x4096_1_0_0_1_n_n none (extractStridedSlice S4x64 ![4 * k.val, 0] W (sliceWeights k))
    (truncf .bf16 (select (cmpf .ogt (cand1 k S x p) (cand0 k S x p)) (broadcast S64x4096 (Scalar.ofBits .f32 0x3F800000#32 : F .f32)) (broadcast S64x4096 (Scalar.ofBits .f32 0x00000000#32 : F .f32))) bitsLt_bf16_f32)
    (constant S4x4096 .f32 0x00000000#32))

theorem sliceQuad : ∀ h : Fin 2, S4x4096.Slices ![2 * h.val, 0] S1x4096 ∧ S4x4096.Slices ![2 * h.val + 1, 0] S1x4096 := by decide

/-- Two rows of sixteen decisions as one of 32. -/
def word (h : Fin 2) (q : IVec S4x4096 32) : IVec S1x4096 32 :=
  addi (extractStridedSlice S1x4096 ![2 * h.val, 0] q (sliceQuad h).1) (shli (extractStridedSlice S1x4096 ![2 * h.val + 1, 0] q (sliceQuad h).2) (broadcast S1x4096 16#32))

/-- Row `n` of a block of packed decisions. -/
def packed (S : Vec F S192x2 .bf16) (W : Vec F S12x64 .bf16) (A B : ℕ → Vec F S1x8x4096 .f32) (p : FVec F S64x4096 .f32) (n : ℕ) : IVec S1x4096 32 :=
  word ⟨n % 2, Nat.mod_lt _ (by decide)⟩ (quads (lay (n / 2)) S W (recv A B (n / 2)) (paths S A B p (n / 2)))

/-- 48 rows of words, one above the other. -/
def stack (f : ℕ → IVec S1x4096 32) : IVec S48x4096 32 :=
  concatenate S48x4096 0 (⟨S1x4096, f 0⟩ :: ⟨S1x4096, f 1⟩ :: ⟨S1x4096, f 2⟩ :: ⟨S1x4096, f 3⟩ :: ⟨S1x4096, f 4⟩ :: ⟨S1x4096, f 5⟩ :: ⟨S1x4096, f 6⟩ :: ⟨S1x4096, f 7⟩ :: ⟨S1x4096, f 8⟩ :: ⟨S1x4096, f 9⟩ :: ⟨S1x4096, f 10⟩ :: ⟨S1x4096, f 11⟩ :: ⟨S1x4096, f 12⟩ :: ⟨S1x4096, f 13⟩ :: ⟨S1x4096, f 14⟩ :: ⟨S1x4096, f 15⟩ :: ⟨S1x4096, f 16⟩ :: ⟨S1x4096, f 17⟩ :: ⟨S1x4096, f 18⟩ :: ⟨S1x4096, f 19⟩ :: ⟨S1x4096, f 20⟩ :: ⟨S1x4096, f 21⟩ :: ⟨S1x4096, f 22⟩ :: ⟨S1x4096, f 23⟩ :: ⟨S1x4096, f 24⟩ :: ⟨S1x4096, f 25⟩ :: ⟨S1x4096, f 26⟩ :: ⟨S1x4096, f 27⟩ :: ⟨S1x4096, f 28⟩ :: ⟨S1x4096, f 29⟩ :: ⟨S1x4096, f 30⟩ :: ⟨S1x4096, f 31⟩ :: ⟨S1x4096, f 32⟩ :: ⟨S1x4096, f 33⟩ :: ⟨S1x4096, f 34⟩ :: ⟨S1x4096, f 35⟩ :: ⟨S1x4096, f 36⟩ :: ⟨S1x4096, f 37⟩ :: ⟨S1x4096, f 38⟩ :: ⟨S1x4096, f 39⟩ :: ⟨S1x4096, f 40⟩ :: ⟨S1x4096, f 41⟩ :: ⟨S1x4096, f 42⟩ :: ⟨S1x4096, f 43⟩ :: ⟨S1x4096, f 44⟩ :: ⟨S1x4096, f 45⟩ :: ⟨S1x4096, f 46⟩ :: ⟨S1x4096, f 47⟩ :: []) concatenates_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S1x4096_S48x4096_d0

/-- The block of packed decisions as it is stored. -/
def block (f : ℕ → IVec S1x4096 32) : IVec S1x48x4096 32 := shapeCast S1x48x4096 (stack f) shapeCasts_S48x4096_S1x48x4096

/-! ### The walk back -/

theorem sliceWord : ∀ n : Fin 48, S48x4096.Slices ![n.val, 0] S1x4096 := by decide

/-- Row `n` of a block of packed decisions. -/
def wordRow (n : Fin 48) (t : IVec S48x4096 32) : IVec S1x4096 32 := extractStridedSlice S1x4096 ![n.val, 0] t (sliceWord n)

/-- The state before, from the two words of a step. -/
def back (w0 w1 s : IVec S1x4096 32) : IVec S1x4096 32 :=
  addi (shrsi s (broadcast S1x4096 1#32))
    (muli (andi (shrsi (select (cmpi .slt s (broadcast S1x4096 32#32)) w0 w1) (andi s (broadcast S1x4096 31#32))) (broadcast S1x4096 1#32)) (broadcast S1x4096 32#32))

/-- The state before the last `n` steps of a block. -/
def behind (t : IVec S48x4096 32) (s : IVec S1x4096 32) : ℕ → IVec S1x4096 32
  | 0 => s
  | n + 1 => back (wordRow ⟨(46 - 2 * n) % 48, Nat.mod_lt _ (by decide)⟩ t) (wordRow ⟨(47 - 2 * n) % 48, Nat.mod_lt _ (by decide)⟩ t) (behind t s n)

/-- The bit decoded at a state. -/
def bit (s : IVec S1x4096 32) : FVec F S1x4096 .f32 := sitofp .f32 (andi (addi s (broadcast S1x4096 1#32)) (broadcast S1x4096 1#32))

/-- The eight bits decoded after the last `n` steps of a block, in order of time. -/
def group (t : IVec S48x4096 32) (s : IVec S1x4096 32) (n : ℕ) : FVec F S1x8x4096 .f32 :=
  shapeCast S1x8x4096 (concatenate S8x4096 0 [⟨S1x4096, bit (behind t s (n + 7))⟩, ⟨S1x4096, bit (behind t s (n + 6))⟩, ⟨S1x4096, bit (behind t s (n + 5))⟩, ⟨S1x4096, bit (behind t s (n + 4))⟩, ⟨S1x4096, bit (behind t s (n + 3))⟩, ⟨S1x4096, bit (behind t s (n + 2))⟩, ⟨S1x4096, bit (behind t s (n + 1))⟩, ⟨S1x4096, bit (behind t s (n + 0))⟩] concatenates_S1x4096_S1x4096_S1x4096_S1x4096_S1x4096_S1x4096_S1x4096_S1x4096_S8x4096_d0) shapeCasts_S8x4096_S1x8x4096

end Cert.KernelIdeal.Steps
-- ==== Proof.PI.Trips.lean ====
/-
  What one trip of each of the kernel's three loops computes, as the steps of Steps.lean.
-/
module

public import proofs.«01_k».proof.Proof.PI.Steps
public import proofs.«01_k».proof.Proof.PI.Back
public import Idealize.ShloMosaic.Lib.Tactic

@[expose] public section

set_option maxRecDepth 8192
set_option maxHeartbeats 4000000

noncomputable section

namespace Cert.KernelIdeal.Trips

open Cert.KernelIdeal Cert.KernelIdeal.Gen Cert.KernelIdeal.Steps
open Idealize.ShloMosaic Idealize.ShloMosaic.Tactic

variable {F : FTy → Type} [FloatOps F]

/-- Three blocks, by number. -/
def three {α : Type} (a b c : α) : ℕ → α
  | 0 => a
  | 1 => b
  | _ => c

/-- The three groups of eight rows that trip `k` of the first loop reads. -/
def rows1 (arg : Memref sig .tc .vmem S16x8x4096 .f32) (X : BufTy.Contents (Elt F) arg.view.ty) (k : Fin k0_t1_loop.trips) : ℕ → Vec F S1x8x4096 .f32 :=
  three (arg.view.readAt (Elt F) (Rect.unit (s := S16x8x4096) (k0_off1 k 0#32) S1x8x4096.size (k0_off1_inb k 0)).toLoadRect X)
    (arg.view.readAt (Elt F) (Rect.unit (s := S16x8x4096) (k0_off1 k 1#32) S1x8x4096.size (k0_off1_inb k 1)).toLoadRect X)
    (arg.view.readAt (Elt F) (Rect.unit (s := S16x8x4096) (k0_off1 k 2#32) S1x8x4096.size (k0_off1_inb k 2)).toLoadRect X)

/-- The three groups of eight rows that trip `k` of the second loop reads. -/
def rows2 (arg : Memref sig .tc .vmem S16x8x4096 .f32) (X : BufTy.Contents (Elt F) arg.view.ty) (k : Fin k0_t2_loop.trips) : ℕ → Vec F S1x8x4096 .f32 :=
  three (arg.view.readAt (Elt F) (Rect.unit (s := S16x8x4096) (k0_off2 k 0#32) S1x8x4096.size (k0_off2_inb k 0)).toLoadRect X)
    (arg.view.readAt (Elt F) (Rect.unit (s := S16x8x4096) (k0_off2 k 1#32) S1x8x4096.size (k0_off2_inb k 1)).toLoadRect X)
    (arg.view.readAt (Elt F) (Rect.unit (s := S16x8x4096) (k0_off2 k 2#32) S1x8x4096.size (k0_off2_inb k 2)).toLoadRect X)

/-- The block of packed decisions that trip `k` of the third loop reads. -/
def tile (arg6 : Memref sig .tc .vmem S11x48x4096 .i32) (X : BufTy.Contents (Elt F) arg6.view.ty) (k : Fin k0_t3_loop.trips) : IVec S48x4096 32 :=
  shapeCast S48x4096 (arg6.view.readAt (Elt F) (Rect.unit (s := S11x48x4096) (k0_off4 k) S1x48x4096.size (k0_off4_inb k)).toLoadRect X) shapeCasts_S1x48x4096_S48x4096

section

variable (𝒱 : Variants) (c : Dev nD) (bd : Option 𝒱.V) (i : grid0.Coords) (arg1 : Memref sig .tc .vmem S16x8x4096 .f32) (harg1 : arg1.IsWhole) (arg2 : Memref sig .tc .vmem S16x8x4096 .f32) (harg2 : arg2.IsWhole)
  (arg3 : Memref sig .tc .vmem S192x2 .bf16) (harg3 : arg3.IsWhole) (arg4 : Memref sig .tc .vmem S12x64 .bf16) (harg4 : arg4.IsWhole) (arg5 : Memref sig .tc .vmem S16x8x4096 .f32) (harg5 : arg5.IsWhole) (arg6 : Memref sig .tc .vmem S11x48x4096 .i32) (harg6 : arg6.IsWhole)

/-- A trip of the first loop is 24 steps. -/
theorem trip1 (S : Vec F S192x2 .bf16) (X1 : BufTy.Contents (Elt F) arg1.view.ty) (X2 : BufTy.Contents (Elt F) arg2.view.ty) (k : Fin k0_t1_loop.trips) (p : FVec F S64x4096 .f32) :
    tripR_k0_t1 (F := F) 𝒱 c bd i arg1 harg1 arg2 harg2 arg3 harg3 arg4 harg4 arg5 harg5 arg6 harg6 S X1 X2 k p = paths S (rows1 arg1 X1 k) (rows1 arg2 X2 k) p 24 := by
  unfold tripR_k0_t1 trip_k0_t1
  sl_kernel_rfl

/-- A trip of the second loop is 24 steps, -/
theorem trip2 (S : Vec F S192x2 .bf16) (W : Vec F S12x64 .bf16) (X1 : BufTy.Contents (Elt F) arg1.view.ty) (X2 : BufTy.Contents (Elt F) arg2.view.ty) (k : Fin k0_t2_loop.trips) (p : FVec F S64x4096 .f32) :
    tripR_k0_t2 (F := F) 𝒱 c bd i arg1 harg1 arg2 harg2 arg3 harg3 arg4 harg4 arg5 harg5 arg6 harg6 S W X1 X2 k p = paths S (rows2 arg1 X1 k) (rows2 arg2 X2 k) p 24 := by
  unfold tripR_k0_t2 trip_k0_t2
  sl_kernel_rfl

/-- and it stores their packed decisions as one block. -/
theorem store2 (S : Vec F S192x2 .bf16) (W : Vec F S12x64 .bf16) (X1 : BufTy.Contents (Elt F) arg1.view.ty) (X2 : BufTy.Contents (Elt F) arg2.view.ty) (k : Fin k0_t2_loop.trips) (p : FVec F S64x4096 .f32) :
    tripL_k0_t2 (F := F) 𝒱 c bd i arg1 harg1 arg2 harg2 arg3 harg3 arg4 harg4 arg5 harg5 arg6 harg6 S W X1 X2 k p
      = [(⟨Rect.unit (s := S11x48x4096) (k0_off3 k) S1x48x4096.size (k0_off3_inb k), block (packed S W (rows2 arg1 X1 k) (rows2 arg2 X2 k) p)⟩ : View.Piece (Elt F) S11x48x4096 .i32)] := by
  unfold tripL_k0_t2 trip_k0_t2
  sl_kernel_rfl

/-- A trip of the third loop walks 24 steps back, -/
theorem trip3 (X : BufTy.Contents (Elt F) arg6.view.ty) (k : Fin k0_t3_loop.trips) (s : IVec S1x4096 32) :
    (Back.trip (F := F) 𝒱 c bd i arg1 harg1 arg2 harg2 arg3 harg3 arg4 harg4 arg5 harg5 arg6 harg6 X k).1 s = behind (tile arg6 X k) s 24 := by
  unfold Back.trip
  sl_kernel_rfl

/-- and has three groups of eight bits to store: the last, -/
theorem store3_1 (X : BufTy.Contents (Elt F) arg6.view.ty) (k : Fin k0_t3_loop.trips) (s : IVec S1x4096 32) :
    (Back.trip (F := F) 𝒱 c bd i arg1 harg1 arg2 harg2 arg3 harg3 arg4 harg4 arg5 harg5 arg6 harg6 X k).2.1 s = group (tile arg6 X k) s 0 := by
  unfold Back.trip
  sl_kernel_rfl

/-- the middle one -/
theorem store3_2 (X : BufTy.Contents (Elt F) arg6.view.ty) (k : Fin k0_t3_loop.trips) (s : IVec S1x4096 32) :
    (Back.trip (F := F) 𝒱 c bd i arg1 harg1 arg2 harg2 arg3 harg3 arg4 harg4 arg5 harg5 arg6 harg6 X k).2.2.1 s = group (tile arg6 X k) s 8 := by
  unfold Back.trip
  sl_kernel_rfl

/-- and the first. -/
theorem store3_3 (X : BufTy.Contents (Elt F) arg6.view.ty) (k : Fin k0_t3_loop.trips) (s : IVec S1x4096 32) :
    (Back.trip (F := F) 𝒱 c bd i arg1 harg1 arg2 harg2 arg3 harg3 arg4 harg4 arg5 harg5 arg6 harg6 X k).2.2.2.1 s = group (tile arg6 X k) s 16 := by
  unfold Back.trip
  sl_kernel_rfl

end

end Cert.KernelIdeal.Trips
-- ==== Proof.Spec.lean ====
/-
  The decoder as plain mathematics: 64 path values per code word, renewed step by step from pairs of received values,
  the decision taken at every state, and the walk back through the decisions.
-/
module

public import Mathlib.Data.EReal.Operations
public import Mathlib.Data.Finset.Lattice.Fold
public import Mathlib.Data.Fintype.Basic
public import Mathlib.Data.Nat.Bitwise

@[expose] public section

noncomputable section

namespace Cert.Viterbi

/-- Whether the code's output `r` on the branch into state `s` (through the first predecessor) is negative: the parity
    of the state's bits at the generator's taps. -/
def neg (s : Fin 64) (r : Fin 2) : Bool :=
  if r = 0 then s.val.testBit 0 ^^ s.val.testBit 2 ^^ s.val.testBit 3 ^^ s.val.testBit 5
  else s.val.testBit 0 ^^ s.val.testBit 1 ^^ s.val.testBit 2 ^^ s.val.testBit 3

/-- The sign of that output. -/
def sign (s : Fin 64) (r : Fin 2) : EReal := if neg s r then -1 else 1

/-- The value of the branch into `s` through the first predecessor; through the second one it is the opposite. -/
def branch (l : Fin 2 → EReal) (s : Fin 64) : EReal := sign s 0 * l 0 + sign s 1 * l 1

/-- The first predecessor of a state -/
def pred0 (s : Fin 64) : Fin 64 := ⟨s.val / 2, by omega⟩
/-- and the second. -/
def pred1 (s : Fin 64) : Fin 64 := ⟨s.val / 2 + 32, by omega⟩

/-- The path value through the first predecessor -/
def cand0 (l : Fin 2 → EReal) (M : Fin 64 → EReal) (s : Fin 64) : EReal := M (pred0 s) + branch l s
/-- and through the second. -/
def cand1 (l : Fin 2 → EReal) (M : Fin 64 → EReal) (s : Fin 64) : EReal := M (pred1 s) - branch l s

/-- The better of the two. -/
def best (l : Fin 2 → EReal) (M : Fin 64 → EReal) (s : Fin 64) : EReal := max (cand0 l M s) (cand1 l M s)

/-- The path values after a step, the greatest brought to zero. -/
def next (l : Fin 2 → EReal) (M : Fin 64 → EReal) (s : Fin 64) : EReal := best l M s - Finset.univ.sup (best l M)

/-- Whether the better path comes through the second predecessor. -/
def dec (l : Fin 2 → EReal) (M : Fin 64 → EReal) (s : Fin 64) : Bool := decide (cand0 l M s < cand1 l M s)

/-- The path values before step `t`. -/
def paths (L : ℕ → Fin 2 → EReal) : ℕ → Fin 64 → EReal
  | 0 => fun _ => 0
  | t + 1 => next (L t) (paths L t)

/-- The decisions of step `t`. -/
def decs (L : ℕ → Fin 2 → EReal) (t : ℕ) : Fin 64 → Bool := dec (L t) (paths L t)

/-- The state before a step, from the state after it and the step's decisions. -/
def back (d : Fin 64 → Bool) (s : Fin 64) : Fin 64 := if d s then pred1 s else pred0 s

/-- The state `n` steps before the end of 384 steps, from state 0 at the end. -/
def state (D : ℕ → Fin 64 → Bool) : ℕ → Fin 64
  | 0 => 0
  | n + 1 => back (D (383 - n)) (state D n)

/-- The bit decoded at a state: one at the even ones. -/
def bit (s : Fin 64) : EReal := (((s.val + 1) % 2 : ℕ) : EReal)

/-- The bit decoded at step `t`. -/
def decoded (D : ℕ → Fin 64 → Bool) (t : ℕ) : EReal := bit (state D (383 - t))

/-- The values received: the words' 128 pairs three times over, each value brought into the range from -20 to 20. -/
def received (x : Fin 4096 → Fin 256 → EReal) (b : Fin 4096) (t : ℕ) (r : Fin 2) : EReal :=
  min ((20 : ℝ) : EReal) (max ((-20 : ℝ) : EReal) (x b ⟨2 * (t % 128) + r.val, by omega⟩))

/-! ### Layouts: the rows rotated by the step's place in a round of three -/

/-- Six bits rotated left by `k`. -/
def rot (k : ℕ) (p : Fin 64) : Fin 64 := ⟨(p.val * 2 ^ k % 64 + p.val / 2 ^ (6 - k)) % 64, Nat.mod_lt _ (by decide)⟩

theorem rot_bij : ∀ k : Fin 4, ∀ s : Fin 64, ∃ p, rot k.val p = s := by decide +kernel

theorem sup_rot (k : Fin 4) (f : Fin 64 → EReal) : (Finset.univ.sup fun p => f (rot k.val p)) = Finset.univ.sup f := by
  refine le_antisymm (Finset.sup_le fun p _ => Finset.le_sup (f := f) (Finset.mem_univ _)) (Finset.sup_le fun s _ => ?_)
  obtain ⟨p, rfl⟩ := rot_bij k s
  exact Finset.le_sup (f := fun p => f (rot k.val p)) (Finset.mem_univ p)

theorem rot_zero (p : Fin 64) : rot 0 p = p := by
  apply Fin.ext; simp only [rot]; have := p.isLt; omega

end Cert.Viterbi
-- ==== Proof.PI.Columns.lean ====
/-
  The kernel's steps read column by column, at exact arithmetic: a column's 64 rows, in the layout of the step, are the
  decoder's 64 path values.
-/
module

public import proofs.«01_k».proof.Proof.PI.Steps
public import proofs.«01_k».proof.Proof.Spec
public import Idealize.ShloMosaic.Lib.Pipeline.ValueKit
public import Idealize.ShloMosaic.Lib.IdealHost

@[expose] public section

set_option maxRecDepth 16384
set_option maxHeartbeats 4000000

noncomputable section

namespace Cert.KernelIdeal.Columns

open Cert.KernelIdeal Cert.KernelIdeal.Steps
open Idealize.ShloMosaic

/-! ### Each operation at a row and a column -/

theorem low0_apply (p : FVec Ideal S64x4096 .f32) (q : Fin 64) (b : Fin 4096) :
    low0 p (ix2 q b) = p (ix2 (⟨q.val % 32, by omega⟩ : Fin 64) b) := by
  unfold low0
  pointwise
  split_ifs <;> blk_ext

theorem high0_apply (p : FVec Ideal S64x4096 .f32) (q : Fin 64) (b : Fin 4096) :
    high0 p (ix2 q b) = p (ix2 (⟨32 + q.val % 32, by omega⟩ : Fin 64) b) := by
  unfold high0
  pointwise
  split_ifs <;> blk_ext

theorem low1_apply (p : FVec Ideal S64x4096 .f32) (q : Fin 64) (b : Fin 4096) :
    low1 p (ix2 q b) = p (ix2 (⟨32 * (q.val / 32) + q.val % 16, by omega⟩ : Fin 64) b) := by
  unfold low1
  pointwise
  split_ifs <;> blk_ext

theorem high1_apply (p : FVec Ideal S64x4096 .f32) (q : Fin 64) (b : Fin 4096) :
    high1 p (ix2 q b) = p (ix2 (⟨32 * (q.val / 32) + 16 + q.val % 16, by omega⟩ : Fin 64) b) := by
  unfold high1
  pointwise
  split_ifs <;> blk_ext

theorem low2_apply (p : FVec Ideal S64x4096 .f32) (q : Fin 64) (b : Fin 4096) :
    low2 p (ix2 q b) = p (ix2 (⟨16 * (q.val / 16) + q.val % 8, by omega⟩ : Fin 64) b) := by
  unfold low2
  pointwise
  split_ifs <;> blk_ext

theorem high2_apply (p : FVec Ideal S64x4096 .f32) (q : Fin 64) (b : Fin 4096) :
    high2 p (ix2 q b) = p (ix2 (⟨16 * (q.val / 16) + 8 + q.val % 8, by omega⟩ : Fin 64) b) := by
  unfold high2
  pointwise
  split_ifs <;> blk_ext

theorem restore_apply (p : FVec Ideal S64x4096 .f32) (q : Fin 64) (b : Fin 4096) :
    restore p (ix2 q b) = p (ix2 (⟨q.val % 8 * 8 + q.val / 8, by omega⟩ : Fin 64) b) := by
  unfold restore
  pointwise

theorem ofBits_bottom : Ideal.ofBits FTy.f32 0xFF800000#32 = ⊥ := by simp [Ideal.ofBits, Ideal.ieee]

theorem level_apply (p : FVec Ideal S64x4096 .f32) (q : Fin 64) (b : Fin 4096) :
    level p (ix2 q b) = p (ix2 q b) - Finset.univ.sup fun r : Fin 64 => p (ix2 r b) := by
  unfold level
  pointwise
  rw [ofBits_bottom]
  rfl

theorem branch_apply (k : Fin 3) (S : Vec Ideal S192x2 .bf16) (x : FVec Ideal S2x4096 .bf16) (q : Fin 64) (b : Fin 4096) :
    branch k S x (ix2 q b)
      = S (ix2 (⟨64 * k.val + q.val, by omega⟩ : Fin 192) (0 : Fin 2)) * x (ix2 (0 : Fin 2) b)
        + S (ix2 (⟨64 * k.val + q.val, by omega⟩ : Fin 192) (1 : Fin 2)) * x (ix2 (1 : Fin 2) b) := by
  unfold branch
  pointwise
  rw [Fin.sum_univ_two]

theorem pair_zero (i : Fin 8) (a c : FVec Ideal S8x4096 .bf16) (b : Fin 4096) : pair i a c (ix2 (0 : Fin 2) b) = a (ix2 i b) := by
  unfold pair
  pointwise

theorem pair_one (i : Fin 8) (a c : FVec Ideal S8x4096 .bf16) (b : Fin 4096) : pair i a c (ix2 (1 : Fin 2) b) = c (ix2 i b) := by
  unfold pair
  pointwise

/-- A value held between -20 and 20. -/
def clip (x : EReal) : EReal := min (Ideal.ofBits .f32 0x41A00000#32) (max (Ideal.ofBits .f32 0xC1A00000#32) x)

theorem clipped_apply (v : Vec Ideal S1x8x4096 .f32) (i : Fin 8) (b : Fin 4096) :
    clipped v (ix2 i b) = clip (v (ix3 (0 : Fin 1) i b)) := by
  unfold clipped clip
  pointwise

/-- The signs as the kernel's table of layouts has them. -/
def Signs (S : Vec Ideal S192x2 .bf16) : Prop :=
  ∀ (k : Fin 3) (q : Fin 64) (r : Fin 2), S (ix2 (⟨64 * k.val + q.val, by omega⟩ : Fin 192) r) = Viterbi.sign (Viterbi.rot (k.val + 1) q) r

theorem branch_eq (k : Fin 3) {S : Vec Ideal S192x2 .bf16} (hS : Signs S) (x : FVec Ideal S2x4096 .bf16) (q : Fin 64) (b : Fin 4096) :
    branch k S x (ix2 q b) = Viterbi.branch (fun r => x (ix2 r b)) (Viterbi.rot (k.val + 1) q) := by
  rw [branch_apply, hS k q 0, hS k q 1]
  rfl

theorem pred_rot0 : ∀ q : Fin 64, Viterbi.rot 0 (⟨q.val % 32, by omega⟩ : Fin 64) = Viterbi.pred0 (Viterbi.rot 1 q)
    ∧ Viterbi.rot 0 (⟨32 + q.val % 32, by omega⟩ : Fin 64) = Viterbi.pred1 (Viterbi.rot 1 q) := by decide +kernel
theorem pred_rot1 : ∀ q : Fin 64, Viterbi.rot 1 (⟨32 * (q.val / 32) + q.val % 16, by omega⟩ : Fin 64) = Viterbi.pred0 (Viterbi.rot 2 q)
    ∧ Viterbi.rot 1 (⟨32 * (q.val / 32) + 16 + q.val % 16, by omega⟩ : Fin 64) = Viterbi.pred1 (Viterbi.rot 2 q) := by decide +kernel
theorem pred_rot2 : ∀ q : Fin 64, Viterbi.rot 2 (⟨16 * (q.val / 16) + q.val % 8, by omega⟩ : Fin 64) = Viterbi.pred0 (Viterbi.rot 3 q)
    ∧ Viterbi.rot 2 (⟨16 * (q.val / 16) + 8 + q.val % 8, by omega⟩ : Fin 64) = Viterbi.pred1 (Viterbi.rot 3 q) := by decide +kernel
theorem rot_restore : ∀ q : Fin 64, Viterbi.rot 3 (⟨q.val % 8 * 8 + q.val / 8, by omega⟩ : Fin 64) = q := by decide +kernel

variable {S : Vec Ideal S192x2 .bf16} {x : FVec Ideal S2x4096 .bf16} {p : FVec Ideal S64x4096 .f32} {b : Fin 4096} {M : Fin 64 → EReal}

/-- A column holds the path values `M`, its rows in layout `k`. -/
def Holds (k : ℕ) (p : FVec Ideal S64x4096 .f32) (b : Fin 4096) (M : Fin 64 → EReal) : Prop :=
  ∀ q : Fin 64, p (ix2 q b) = M (Viterbi.rot k q)

theorem low_eq (k : Fin 3) (h : Holds k.val p b M) (q : Fin 64) : low k p (ix2 q b) = M (Viterbi.pred0 (Viterbi.rot (k.val + 1) q)) := by
  match k with
  | 0 => exact (low0_apply p q b).trans ((h _).trans (congrArg M (pred_rot0 q).1))
  | 1 => exact (low1_apply p q b).trans ((h _).trans (congrArg M (pred_rot1 q).1))
  | 2 => exact (low2_apply p q b).trans ((h _).trans (congrArg M (pred_rot2 q).1))

theorem high_eq (k : Fin 3) (h : Holds k.val p b M) (q : Fin 64) : high k p (ix2 q b) = M (Viterbi.pred1 (Viterbi.rot (k.val + 1) q)) := by
  match k with
  | 0 => exact (high0_apply p q b).trans ((h _).trans (congrArg M (pred_rot0 q).2))
  | 1 => exact (high1_apply p q b).trans ((h _).trans (congrArg M (pred_rot1 q).2))
  | 2 => exact (high2_apply p q b).trans ((h _).trans (congrArg M (pred_rot2 q).2))

theorem cand0_eq (k : Fin 3) (hS : Signs S) (h : Holds k.val p b M) (q : Fin 64) :
    cand0 k S x p (ix2 q b) = Viterbi.cand0 (fun r => x (ix2 r b)) M (Viterbi.rot (k.val + 1) q) := by
  show low k p (ix2 q b) + branch k S x (ix2 q b) = _
  rw [low_eq k h, branch_eq k hS]
  rfl

theorem cand1_eq (k : Fin 3) (hS : Signs S) (h : Holds k.val p b M) (q : Fin 64) :
    cand1 k S x p (ix2 q b) = Viterbi.cand1 (fun r => x (ix2 r b)) M (Viterbi.rot (k.val + 1) q) := by
  show high k p (ix2 q b) - branch k S x (ix2 q b) = _
  rw [high_eq k h, branch_eq k hS]
  rfl

theorem best_eq (k : Fin 3) (hS : Signs S) (h : Holds k.val p b M) :
    Holds (k.val + 1) (best k S x p) b (Viterbi.next (fun r => x (ix2 r b)) M) := by
  have hb : ∀ q : Fin 64, maximumf (cand0 k S x p) (cand1 k S x p) (ix2 q b) = Viterbi.best (fun r => x (ix2 r b)) M (Viterbi.rot (k.val + 1) q) := by
    intro q
    show max (cand0 k S x p (ix2 q b)) (cand1 k S x p (ix2 q b)) = _
    rw [cand0_eq k hS h, cand1_eq k hS h]
    rfl
  intro q
  unfold best
  rw [level_apply, hb q]
  simp only [hb]
  rw [Viterbi.sup_rot ⟨k.val + 1, by omega⟩ (Viterbi.best (fun r => x (ix2 r b)) M)]
  rfl

/-- A step renews the column's path values and moves its rows to the next layout. -/
theorem step_eq (k : Fin 3) (hS : Signs S) (h : Holds k.val p b M) :
    Holds ((k.val + 1) % 3) (step k S x p) b (Viterbi.next (fun r => x (ix2 r b)) M) := by
  match k with
  | 0 => exact best_eq 0 hS h
  | 1 => exact best_eq 1 hS h
  | 2 =>
    intro q
    show restore (best 2 S x p) (ix2 q b) = _
    rw [restore_apply, best_eq 2 hS h]
    show Viterbi.next _ M (Viterbi.rot 3 _) = Viterbi.next _ M (Viterbi.rot 0 q)
    rw [rot_restore, Viterbi.rot_zero]

/-- The values received in a column at place `u` of a block. -/
def received (A B : ℕ → Vec Ideal S1x8x4096 .f32) (b : Fin 4096) (u : ℕ) (r : Fin 2) : EReal :=
  if r = 0 then clip (A (u / 8) (ix3 (0 : Fin 1) (row u) b)) else clip (B (u / 8) (ix3 (0 : Fin 1) (row u) b))

theorem recv_eq (A B : ℕ → Vec Ideal S1x8x4096 .f32) (b : Fin 4096) (u : ℕ) : (fun r => recv A B u (ix2 r b)) = received A B b u := by
  funext r
  unfold recv received
  match r with
  | 0 => rw [pair_zero, clipped_apply, if_pos rfl]
  | 1 => rw [pair_one, clipped_apply, if_neg (by decide)]

/-- A block's steps over a column that holds the path values before step `t` of a word. -/
theorem paths_eq (hS : Signs S) (A B : ℕ → Vec Ideal S1x8x4096 .f32) (L : ℕ → Fin 2 → EReal) (t : ℕ)
    (hL : ∀ u, u < 24 → received A B b u = L (t + u)) (h : Holds 0 p b (Viterbi.paths L t)) :
    ∀ u, u ≤ 24 → Holds (u % 3) (paths S A B p u) b (Viterbi.paths L (t + u))
  | 0, _ => h
  | u + 1, hu => by
    have := step_eq (lay u) (x := recv A B u) hS (paths_eq hS A B L t hL h u (by omega))
    rw [recv_eq, hL u (by omega)] at this
    rwa [show ((lay u).val + 1) % 3 = (u + 1) % 3 by show (u % 3 + 1) % 3 = _; omega] at this

end Cert.KernelIdeal.Columns
-- ==== Proof.PI.Bits.lean ====
/-
  Sixteen decisions as the bits of a number, two such numbers as a word of 32 decisions, and the step back that reads
  one of them.
-/
module

public import proofs.«01_k».proof.Proof.Spec
public import Idealize.ShloMosaic.PureOps
public import Idealize.ShloMosaic.PureOps.Ideal
public import Mathlib.Algebra.BigOperators.Fin
public import Mathlib.Data.Nat.Cast.Basic
public import Mathlib.Logic.Equiv.Fin.Basic

@[expose] public section

set_option maxRecDepth 16384

noncomputable section

namespace Cert.Viterbi

open Idealize.ShloMosaic

/-- Bits given by their places, as a number. -/
def num {n : ℕ} (f : Fin n → Bool) : ℕ := ∑ i, if f i then 2 ^ i.val else 0

theorem num_succ {n : ℕ} (f : Fin (n + 1) → Bool) : num f = 2 * num (fun i => f i.succ) + (f 0).toNat := by
  unfold num
  rw [Fin.sum_univ_succ, Finset.mul_sum, Nat.add_comm]
  congr 1
  · refine Finset.sum_congr rfl fun i _ => ?_
    split
    · rw [Fin.val_succ, Nat.pow_succ, Nat.mul_comm]
    · rfl
  · cases f 0 <;> rfl

theorem num_lt {n : ℕ} (f : Fin n → Bool) : num f < 2 ^ n := by
  induction n with
  | zero => exact Nat.one_pos
  | succ n ih =>
    rw [num_succ, Nat.pow_succ]
    have := ih fun i => f i.succ
    have := (f 0).toNat_le
    omega

theorem testBit_num {n : ℕ} (f : Fin n → Bool) (i : Fin n) : (num f).testBit i.val = f i := by
  induction n with
  | zero => exact i.elim0
  | succ n ih =>
    rw [num_succ]
    refine i.cases ?_ fun j => ?_
    · show Nat.testBit _ 0 = _
      rw [Nat.testBit_zero, Nat.mul_add_mod]
      cases f 0 <;> rfl
    · rw [Fin.val_succ, Nat.testBit_succ, show (2 * num (fun i => f i.succ) + (f 0).toNat) / 2 = num (fun i => f i.succ) by have := (f 0).toNat_le; omega]
      exact ih _ j

/-- The decisions of sixteen states, from state `16 w`, as a number. -/
def half (d : Fin 64 → Bool) (w : Fin 4) : ℕ := num fun i : Fin 16 => d ⟨16 * w.val + i.val, by omega⟩

/-- A sum over all states that weighs one group of sixteen is that number. -/
theorem half_eq (d : Fin 64 → Bool) (w : Fin 4) :
    (∑ s : Fin 64, if s.val / 16 = w.val ∧ d s = true then 2 ^ (s.val % 16) else 0) = half d w := by
  rw [← (finProdFinEquiv (m := 4) (n := 16)).sum_comp, Fintype.sum_prod_type, Finset.sum_eq_single w]
  · unfold half num
    refine Finset.sum_congr rfl fun i _ => ?_
    have h1 : (finProdFinEquiv (m := 4) (n := 16) (w, i)).val = i.val + 16 * w.val := rfl
    have h2 : finProdFinEquiv (m := 4) (n := 16) (w, i) = (⟨16 * w.val + i.val, by omega⟩ : Fin 64) := Fin.ext (by rw [h1]; exact Nat.add_comm _ _)
    rw [h1, h2, show (i.val + 16 * w.val) / 16 = w.val by omega, show (i.val + 16 * w.val) % 16 = i.val by omega]
    simp only [true_and]
  · intro a _ ha
    refine Finset.sum_eq_zero fun i _ => if_neg fun h => ha ?_
    have h1 : (finProdFinEquiv (m := 4) (n := 16) (a, i)).val = i.val + 16 * a.val := rfl
    rw [h1] at h
    exact Fin.ext (by omega)
  · exact fun h => absurd (Finset.mem_univ _) h

theorem rot_inj : ∀ k : Fin 4, Function.Injective (rot k.val) := by decide +kernel

/-- A sum over the rows of a layout is the sum over the states. -/
theorem sum_rot {α : Type} [AddCommMonoid α] (k : Fin 4) (f : Fin 64 → α) : ∑ q, f (rot k.val q) = ∑ s, f s :=
  Function.Bijective.sum_comp ⟨rot_inj k, fun s => (rot_bij k s)⟩ f

/-- Weighing the decisions with powers of two gives the number, whatever the layout of the rows. -/
theorem weigh (k : Fin 4) (d : Fin 64 → Bool) (w : Fin 4) :
    (∑ q : Fin 64, (if (rot k.val q).val / 16 = w.val then ((2 ^ ((rot k.val q).val % 16) : ℕ) : EReal) else 0) * (if d (rot k.val q) then 1 else 0))
      = ((half d w : ℕ) : EReal) := by
  rw [sum_rot k fun s => (if s.val / 16 = w.val then ((2 ^ (s.val % 16) : ℕ) : EReal) else 0) * (if d s then 1 else 0), ← half_eq, Nat.cast_sum]
  refine Finset.sum_congr rfl fun s _ => ?_
  by_cases h1 : s.val / 16 = w.val
  · by_cases h2 : d s = true
    · rw [if_pos h1, if_pos h2, if_pos ⟨h1, h2⟩, mul_one]
    · rw [if_pos h1, if_neg h2, if_neg (fun h : _ ∧ d s = true => h2 h.2), mul_zero, Nat.cast_zero]
  · rw [if_neg h1, if_neg (fun h : _ ∧ d s = true => h1 h.1), zero_mul, Nat.cast_zero]

/-- A natural number converts to its word. -/
theorem fptosi_nat (n : ℕ) (hn : n < 2 ^ 31) : Ideal.fptosi 32 ((n : ℕ) : EReal) = BitVec.ofNat 32 n := by
  have h : ((n : ℕ) : EReal) = (((n : ℕ) : ℝ) : EReal) := by push_cast; rfl
  rw [h, Ideal.fptosi, Ideal.toIntClamped_coe, if_pos (Nat.cast_nonneg n), Int.floor_natCast]
  have e : max (-((2 ^ (32 - 1) : ℕ) : ℤ)) (min (((2 ^ (32 - 1) : ℕ) : ℤ) - 1) (n : ℤ)) = (n : ℤ) := by
    norm_num at hn ⊢
    omega
  rw [e, BitVec.ofInt_natCast]

/-- A word that holds the decisions of 32 states, from state `32 h`. -/
def Word (w : BitVec 32) (d : Fin 64 → Bool) (h : Fin 2) : Prop :=
  ∀ i : Fin 32, w.getLsbD i.val = d ⟨32 * h.val + i.val, by omega⟩

theorem word_of_halves (d : Fin 64 → Bool) (h : Fin 2) :
    Word (BitVec.ofNat 32 (half d ⟨2 * h.val, by omega⟩) + (BitVec.ofNat 32 (half d ⟨2 * h.val + 1, by omega⟩)) <<< (16#32)) d h := by
  have h0 : half d ⟨2 * h.val, by omega⟩ < 2 ^ 16 := num_lt _
  have h1 : half d ⟨2 * h.val + 1, by omega⟩ < 2 ^ 16 := num_lt _
  have e : (BitVec.ofNat 32 (half d ⟨2 * h.val, by omega⟩) + (BitVec.ofNat 32 (half d ⟨2 * h.val + 1, by omega⟩)) <<< (16#32)).toNat
      = 2 ^ 16 * half d ⟨2 * h.val + 1, by omega⟩ + half d ⟨2 * h.val, by omega⟩ := by
    generalize half d ⟨2 * h.val, by omega⟩ = a at h0 ⊢
    generalize half d ⟨2 * h.val + 1, by omega⟩ = c at h1 ⊢
    rw [BitVec.shiftLeft_eq', BitVec.toNat_add, BitVec.toNat_shiftLeft, BitVec.toNat_ofNat, BitVec.toNat_ofNat, show (16#32).toNat = 16 from rfl,
      Nat.shiftLeft_eq]
    omega
  intro i
  show (BitVec.toNat _).testBit i.val = _
  rw [e, Nat.testBit_two_pow_mul_add _ h0]
  split
  · next hi =>
    refine (testBit_num _ (⟨i.val, hi⟩ : Fin 16)).trans (congrArg d (Fin.ext ?_))
    show 16 * (2 * h.val) + i.val = 32 * h.val + i.val
    omega
  · next hi =>
    refine (testBit_num _ (⟨i.val - 16, by omega⟩ : Fin 16)).trans (congrArg d (Fin.ext ?_))
    show 16 * (2 * h.val + 1) + (i.val - 16) = 32 * h.val + i.val
    omega

/-- The step back on words: the state's bit of the two words is the decision. -/
theorem back_word (u : ArithUnit) (d : Fin 64 → Bool) {w0 w1 : BitVec 32} (h0 : Word w0 d 0) (h1 : Word w1 d 1) (s : Fin 64) :
    IntOp.addi (IntOp.shrsi u (BitVec.ofNat 32 s.val) 1#32)
      (IntOp.muli (IntOp.andi (IntOp.shrsi u (Scalar.select (IntOp.cmpi CmpIPredicate.slt (BitVec.ofNat 32 s.val) 32#32) w0 w1)
        (IntOp.andi (BitVec.ofNat 32 s.val) 31#32)) 1#32) 32#32)
      = BitVec.ofNat 32 (back d s).val := by
  have low : ∀ (w : BitVec 32) (n : Fin 32), IntOp.andi (IntOp.shrsi u w (BitVec.ofNat 32 n.val)) 1#32 = if w.getLsbD n.val then 1#32 else 0#32 := by
    intro w n
    have hn : (BitVec.ofNat 32 n.val).toNat = n.val := by rw [BitVec.toNat_ofNat]; omega
    unfold IntOp.shrsi IntOp.andi
    rw [if_pos (by rw [hn]; exact n.isLt)]
    show BitVec.sshiftRight w (BitVec.ofNat 32 n.val).toNat &&& 1#32 = _
    rw [hn]
    refine BitVec.eq_of_getLsbD_eq fun i hi => ?_
    rw [BitVec.getLsbD_and, BitVec.getLsbD_one]
    by_cases hi0 : i = 0
    · subst hi0
      rw [BitVec.getLsbD_sshiftRight, Nat.add_zero, if_pos n.isLt]
      cases w.getLsbD n.val <;> simp
    · cases w.getLsbD n.val <;> simp [hi0]
  have sel : ∀ s : Fin 64, Scalar.select (IntOp.cmpi CmpIPredicate.slt (BitVec.ofNat 32 s.val) 32#32) w0 w1 = if s.val < 32 then w0 else w1 := by
    intro s
    have : ∀ s : Fin 64, IntOp.cmpi CmpIPredicate.slt (BitVec.ofNat 32 s.val) 32#32 = if s.val < 32 then 1#1 else 0#1 := by decide +kernel
    rw [this]
    split <;> rfl
  have amt : ∀ s : Fin 64, IntOp.andi (BitVec.ofNat 32 s.val) 31#32 = BitVec.ofNat 32 (s.val % 32) := by decide +kernel
  have dec : (if (if s.val < 32 then w0 else w1).getLsbD (s.val % 32) then 1#32 else 0#32) = if d s then 1#32 else 0#32 := by
    congr 2
    split
    · next hs =>
      refine (h0 ⟨s.val % 32, Nat.mod_lt _ (by decide)⟩).trans (congrArg d (Fin.ext ?_))
      show 32 * 0 + s.val % 32 = s.val
      omega
    · next hs =>
      refine (h1 ⟨s.val % 32, Nat.mod_lt _ (by decide)⟩).trans (congrArg d (Fin.ext ?_))
      show 32 * 1 + s.val % 32 = s.val
      omega
  rw [sel, amt, low _ ⟨s.val % 32, Nat.mod_lt _ (by decide)⟩, dec]
  have fin : ∀ (s : Fin 64) (c : Bool), ((BitVec.ofNat 32 s.val).sshiftRight 1) + (if c then 1#32 else 0#32) * 32#32
      = BitVec.ofNat 32 (if c then pred1 s else pred0 s).val := by decide +kernel
  exact fin s (d s)

/-- The decoded bit on words. -/
theorem bit_word (s : Fin 64) :
    (((IntOp.andi (IntOp.addi (BitVec.ofNat 32 s.val) 1#32) 1#32).toInt : ℝ) : EReal) = bit s := by
  have h : ∀ s : Fin 64, (IntOp.andi (IntOp.addi (BitVec.ofNat 32 s.val) 1#32) 1#32).toInt = (((s.val + 1) % 2 : ℕ) : ℤ) := by decide +kernel
  rw [h, bit]
  push_cast
  rfl

end Cert.Viterbi
-- ==== Proof.PI.Decode.lean ====
/-
  What the kernel's body computes, column by column: the decoded bits of the word whose received values the column
  holds.
-/
module

public import proofs.«01_k».proof.Proof.PI.Body
public import proofs.«01_k».proof.Proof.PI.Trips
public import proofs.«01_k».proof.Proof.PI.Columns
public import proofs.«01_k».proof.Proof.PI.Bits

@[expose] public section

set_option maxRecDepth 16384
set_option maxHeartbeats 4000000

noncomputable section

namespace Cert.KernelIdeal.Decode

open Cert.KernelIdeal Cert.KernelIdeal.Gen Cert.KernelIdeal.Steps Cert.KernelIdeal.Columns Cert.KernelIdeal.Trips
open Idealize.ShloMosaic

/-! ### Packed decisions -/

/-- The weights as the kernel's table of layouts has them: sixteen powers of two per group of sixteen states. -/
def Weights (W : Vec Ideal S12x64 .bf16) : Prop :=
  ∀ (k : Fin 3) (w : Fin 4) (q : Fin 64), W (ix2 (⟨4 * k.val + w.val, by omega⟩ : Fin 12) q)
    = if (Viterbi.rot (k.val + 1) q).val / 16 = w.val then ((2 ^ ((Viterbi.rot (k.val + 1) q).val % 16) : ℕ) : EReal) else 0

theorem quads_apply (k : Fin 3) (S : Vec Ideal S192x2 .bf16) (W : Vec Ideal S12x64 .bf16) (x : FVec Ideal S2x4096 .bf16) (p : FVec Ideal S64x4096 .f32) (w : Fin 4) (b : Fin 4096) :
    quads k S W x p (ix2 w b)
      = Ideal.fptosi 32 (∑ q : Fin 64, W (ix2 (⟨4 * k.val + w.val, by omega⟩ : Fin 12) q) * (if cand0 k S x p (ix2 q b) < cand1 k S x p (ix2 q b) then 1 else 0)) := by
  unfold quads
  pointwise
  rfl

variable {S : Vec Ideal S192x2 .bf16} {W : Vec Ideal S12x64 .bf16} {x : FVec Ideal S2x4096 .bf16} {p : FVec Ideal S64x4096 .f32} {b : Fin 4096} {M : Fin 64 → EReal}

theorem quads_eq (k : Fin 3) (hS : Signs S) (hW : Weights W) (h : Holds k.val p b M) (w : Fin 4) :
    quads k S W x p (ix2 w b) = BitVec.ofNat 32 (Viterbi.half (Viterbi.dec (fun r => x (ix2 r b)) M) w) := by
  have hlt : Viterbi.half (Viterbi.dec (fun r => x (ix2 r b)) M) w < 2 ^ 31 := lt_of_lt_of_le (Viterbi.num_lt _) (by decide)
  rw [quads_apply, ← Viterbi.fptosi_nat (Viterbi.half (Viterbi.dec (fun r => x (ix2 r b)) M) w) hlt, ← Viterbi.weigh ⟨k.val + 1, by omega⟩]
  congr 1
  refine Finset.sum_congr rfl fun q _ => ?_
  rw [hW k w q, cand0_eq k hS h, cand1_eq k hS h]
  congr 1
  unfold Viterbi.dec
  by_cases hd : Viterbi.cand0 (fun r => x (ix2 r b)) M (Viterbi.rot (k.val + 1) q) < Viterbi.cand1 (fun r => x (ix2 r b)) M (Viterbi.rot (k.val + 1) q)
  · rw [if_pos hd, if_pos (decide_eq_true hd)]
  · rw [if_neg hd, if_neg (fun h => hd (of_decide_eq_true h))]

theorem word_apply (h : Fin 2) (q : IVec S4x4096 32) (b : Fin 4096) :
    word h q (ix2 (0 : Fin 1) b) = q (ix2 (⟨2 * h.val, by omega⟩ : Fin 4) b) + (q (ix2 (⟨2 * h.val + 1, by omega⟩ : Fin 4) b)) <<< (16#32) := by
  unfold word
  pointwise
  rfl

/-- A block's rows of packed decisions, over a column that holds the path values before step `t`. -/
theorem packed_word (hS : Signs S) (hW : Weights W) (A B : ℕ → Vec Ideal S1x8x4096 .f32) (L : ℕ → Fin 2 → EReal) (t : ℕ)
    (hL : ∀ u, u < 24 → received A B b u = L (t + u)) (hp : Holds 0 p b (Viterbi.paths L t)) (u : ℕ) (hu : u < 24) (h : Fin 2) :
    Viterbi.Word (packed S W A B p (2 * u + h.val) (ix2 (0 : Fin 1) b)) (Viterbi.decs L (t + u)) h := by
  have e1 : (2 * u + h.val) / 2 = u := by omega
  have e2 : (⟨(2 * u + h.val) % 2, Nat.mod_lt _ (by decide)⟩ : Fin 2) = h := Fin.ext (by show (2 * u + h.val) % 2 = h.val; omega)
  unfold packed
  rw [e1, e2, word_apply]
  have hq := quads_eq (lay u) (x := recv A B u) hS hW (paths_eq hS A B L t hL hp u (by omega))
  rw [recv_eq, hL u hu] at hq
  rw [hq, hq]
  exact Viterbi.word_of_halves _ h

theorem stack_apply (f : ℕ → IVec S1x4096 32) (n : Fin 48) (b : Fin 4096) : stack f (ix2 n b) = f n.val (ix2 (0 : Fin 1) b) := by
  unfold stack
  fin_cases n <;> pointwise

theorem block_apply (f : ℕ → IVec S1x4096 32) (n : Fin 48) (b : Fin 4096) : block f (ix3 (0 : Fin 1) n b) = f n.val (ix2 (0 : Fin 1) b) := by
  rw [← stack_apply f n b]
  unfold block
  pointwise

/-! ### The walk back -/

theorem back_apply (w0 w1 s : IVec S1x4096 32) (d : Fin 64 → Bool) (st : Fin 64) (h0 : Viterbi.Word (w0 (ix2 (0 : Fin 1) b)) d 0)
    (h1 : Viterbi.Word (w1 (ix2 (0 : Fin 1) b)) d 1) (hs : s (ix2 (0 : Fin 1) b) = BitVec.ofNat 32 st.val) :
    back w0 w1 s (ix2 (0 : Fin 1) b) = BitVec.ofNat 32 (Viterbi.back d st).val := by
  rw [← Viterbi.back_word .vector d h0 h1 st, ← hs]
  rfl

theorem wordRow_apply (n : Fin 48) (t : IVec S48x4096 32) (b : Fin 4096) : wordRow n t (ix2 (0 : Fin 1) b) = t (ix2 n b) := by
  unfold wordRow
  pointwise

/-- A block of packed decisions that holds, in a column, the decisions of 24 steps, the last of them step `383 - N`. -/
def Packed (t : IVec S48x4096 32) (b : Fin 4096) (D : ℕ → Fin 64 → Bool) (N : ℕ) : Prop :=
  ∀ (n : ℕ) (hn : n < 24) (h : Fin 2), Viterbi.Word (t (ix2 (⟨46 - 2 * n + h.val, by omega⟩ : Fin 48) b)) (D (383 - (N + n))) h

theorem behind_eq {t : IVec S48x4096 32} {D : ℕ → Fin 64 → Bool} {N : ℕ} (ht : Packed t b D N) {s : IVec S1x4096 32}
    (hs : s (ix2 (0 : Fin 1) b) = BitVec.ofNat 32 (Viterbi.state D N).val) :
    ∀ n, n ≤ 24 → behind t s n (ix2 (0 : Fin 1) b) = BitVec.ofNat 32 (Viterbi.state D (N + n)).val
  | 0, _ => hs
  | n + 1, hn => by
    refine back_apply _ _ _ (D (383 - (N + n))) (Viterbi.state D (N + n)) ?_ ?_ (behind_eq ht hs n (by omega))
    · rw [wordRow_apply]
      have := ht n (by omega) 0
      rwa [show (⟨46 - 2 * n + (0 : Fin 2).val, by omega⟩ : Fin 48) = ⟨(46 - 2 * n) % 48, Nat.mod_lt _ (by decide)⟩ from Fin.ext (by show 46 - 2 * n + 0 = (46 - 2 * n) % 48; omega)] at this
    · rw [wordRow_apply]
      have := ht n (by omega) 1
      rwa [show (⟨46 - 2 * n + (1 : Fin 2).val, by omega⟩ : Fin 48) = ⟨(47 - 2 * n) % 48, Nat.mod_lt _ (by decide)⟩ from Fin.ext (by show 46 - 2 * n + 1 = (47 - 2 * n) % 48; omega)] at this

theorem bit_apply (s : IVec S1x4096 32) (st : Fin 64) (hs : s (ix2 (0 : Fin 1) b) = BitVec.ofNat 32 st.val) :
    bit (F := Ideal) s (ix2 (0 : Fin 1) b) = Viterbi.bit st := by
  rw [← Viterbi.bit_word, ← hs]
  rfl

theorem group_apply (t : IVec S48x4096 32) (s : IVec S1x4096 32) (n : ℕ) (i : Fin 8) (b : Fin 4096) :
    group (F := Ideal) t s n (ix3 (0 : Fin 1) i b) = bit (F := Ideal) (behind t s (n + (7 - i.val))) (ix2 (0 : Fin 1) b) := by
  unfold group
  fin_cases i <;> pointwise

theorem group_eq {t : IVec S48x4096 32} {D : ℕ → Fin 64 → Bool} {N : ℕ} (ht : Packed t b D N) {s : IVec S1x4096 32}
    (hs : s (ix2 (0 : Fin 1) b) = BitVec.ofNat 32 (Viterbi.state D N).val) (n : ℕ) (hn : n ≤ 16) (i : Fin 8) :
    group (F := Ideal) t s n (ix3 (0 : Fin 1) i b) = Viterbi.bit (Viterbi.state D (N + (n + (7 - i.val)))) := by
  rw [group_apply]
  exact bit_apply _ _ (behind_eq ht hs _ (by omega))

/-! ### What the trips read -/

/-- The values received in a column, step by step: the rows in turn, over and over. -/
def values (x1 x2 : Vec Ideal S16x8x4096 .f32) (b : Fin 4096) (t : ℕ) (r : Fin 2) : EReal :=
  clip ((if r = 0 then x1 else x2) (ix3 (⟨t / 8 % 16, Nat.mod_lt _ (by decide)⟩ : Fin 16) (row t) b))

theorem read_group {arg : Memref sig .tc .vmem S16x8x4096 .f32} (harg : arg.IsWhole) (x : Vec Ideal S16x8x4096 .f32) (n : ℕ) (hn : n < 16) (off : Fin 3 → ℕ)
    (inb : ∀ a, off a + S1x8x4096.size a ≤ S16x8x4096.size a) (h : off = ![n, 0, 0]) (i : Fin 8) (b : Fin 4096) :
    arg.view.readAt (Elt Ideal) (Rect.unit (s := S16x8x4096) off S1x8x4096.size inb).toLoadRect (harg.unread x) (ix3 (0 : Fin 1) i b) = x (ix3 (⟨n, hn⟩ : Fin 16) i b) := by
  subst h
  rw [View.readAt_eq_ld, harg.read_unread]
  refine View.ld_unit_apply_of x ![n, 0, 0] S1x8x4096.size inb _ _ fun a => ?_
  fin_cases a
  · show n = n + 0; rfl
  · show i.val = 0 + i.val; omega
  · show b.val = 0 + b.val; omega

theorem trips1 : k0_t1_loop.trips = 5 := by decide
theorem trips2 : k0_t2_loop.trips = 11 := by decide
theorem trips3 : k0_t3_loop.trips = 11 := by decide

theorem off1 : ∀ (k : Fin k0_t1_loop.trips) (r : Fin 3), k0_off1 k (BitVec.ofNat 32 r.val) = ![3 * k.val + r.val, 0, 0] := by decide +kernel
theorem off2 : ∀ (k : Fin k0_t2_loop.trips) (r : Fin 3), k0_off2 k (BitVec.ofNat 32 r.val) = ![(3 * k.val + r.val + 15) % 16, 0, 0] := by decide +kernel
theorem off3 : ∀ k : Fin k0_t2_loop.trips, k0_off3 k = ![k.val, 0, 0] := by decide +kernel
theorem off4 : ∀ k : Fin k0_t3_loop.trips, k0_off4 k = ![10 - k.val, 0, 0] := by decide +kernel

theorem rows1_apply {arg : Memref sig .tc .vmem S16x8x4096 .f32} (harg : arg.IsWhole) (x : Vec Ideal S16x8x4096 .f32) (k : Fin k0_t1_loop.trips) (j : ℕ) (hj : j < 3) (i : Fin 8) (b : Fin 4096) :
    rows1 (F := Ideal) arg (harg.unread x) k j (ix3 (0 : Fin 1) i b) = x (ix3 (⟨(3 * k.val + j) % 16, Nat.mod_lt _ (by decide)⟩ : Fin 16) i b) := by
  have hk : k.val < 5 := trips1 ▸ k.isLt
  match j, hj with
  | 0, _ => exact read_group harg x ((3 * k.val + 0) % 16) (Nat.mod_lt _ (by decide)) _ _ ((off1 k 0).trans (by rw [show (3 * k.val + 0) % 16 = 3 * k.val + (0 : Fin 3).val by show _ = 3 * k.val + 0; omega])) i b
  | 1, _ => exact read_group harg x ((3 * k.val + 1) % 16) (Nat.mod_lt _ (by decide)) _ _ ((off1 k 1).trans (by rw [show (3 * k.val + 1) % 16 = 3 * k.val + (1 : Fin 3).val by show _ = 3 * k.val + 1; omega])) i b
  | 2, _ => exact read_group harg x ((3 * k.val + 2) % 16) (Nat.mod_lt _ (by decide)) _ _ ((off1 k 2).trans (by rw [show (3 * k.val + 2) % 16 = 3 * k.val + (2 : Fin 3).val by show _ = 3 * k.val + 2; omega])) i b

theorem rows2_apply {arg : Memref sig .tc .vmem S16x8x4096 .f32} (harg : arg.IsWhole) (x : Vec Ideal S16x8x4096 .f32) (k : Fin k0_t2_loop.trips) (j : ℕ) (hj : j < 3) (i : Fin 8) (b : Fin 4096) :
    rows2 (F := Ideal) arg (harg.unread x) k j (ix3 (0 : Fin 1) i b) = x (ix3 (⟨(3 * (5 + k.val) + j) % 16, Nat.mod_lt _ (by decide)⟩ : Fin 16) i b) := by
  match j, hj with
  | 0, _ => exact read_group harg x ((3 * (5 + k.val) + 0) % 16) (Nat.mod_lt _ (by decide)) _ _ ((off2 k 0).trans (by rw [show (3 * (5 + k.val) + 0) % 16 = (3 * k.val + (0 : Fin 3).val + 15) % 16 by show _ = (3 * k.val + 0 + 15) % 16; omega])) i b
  | 1, _ => exact read_group harg x ((3 * (5 + k.val) + 1) % 16) (Nat.mod_lt _ (by decide)) _ _ ((off2 k 1).trans (by rw [show (3 * (5 + k.val) + 1) % 16 = (3 * k.val + (1 : Fin 3).val + 15) % 16 by show _ = (3 * k.val + 1 + 15) % 16; omega])) i b
  | 2, _ => exact read_group harg x ((3 * (5 + k.val) + 2) % 16) (Nat.mod_lt _ (by decide)) _ _ ((off2 k 2).trans (by rw [show (3 * (5 + k.val) + 2) % 16 = (3 * k.val + (2 : Fin 3).val + 15) % 16 by show _ = (3 * k.val + 2 + 15) % 16; omega])) i b

/-- Blocks whose groups are rows of the two arrays give the received values of their steps. -/
theorem received_eq (x1 x2 : Vec Ideal S16x8x4096 .f32) (A B : ℕ → Vec Ideal S1x8x4096 .f32) (G : ℕ) (b : Fin 4096)
    (hA : ∀ j, j < 3 → ∀ i : Fin 8, A j (ix3 (0 : Fin 1) i b) = x1 (ix3 (⟨(3 * G + j) % 16, Nat.mod_lt _ (by decide)⟩ : Fin 16) i b))
    (hB : ∀ j, j < 3 → ∀ i : Fin 8, B j (ix3 (0 : Fin 1) i b) = x2 (ix3 (⟨(3 * G + j) % 16, Nat.mod_lt _ (by decide)⟩ : Fin 16) i b))
    (u : ℕ) (hu : u < 24) : received A B b u = values x1 x2 b (24 * G + u) := by
  have e1 : (⟨(3 * G + u / 8) % 16, Nat.mod_lt _ (by decide)⟩ : Fin 16) = ⟨(24 * G + u) / 8 % 16, Nat.mod_lt _ (by decide)⟩ := Fin.ext (by show (3 * G + u / 8) % 16 = (24 * G + u) / 8 % 16; omega)
  have e2 : row (24 * G + u) = row u := Fin.ext (by show (24 * G + u) % 8 = u % 8; omega)
  funext r
  unfold received values
  rw [hA _ (by omega), hB _ (by omega), e1, e2]
  match r with
  | 0 => rfl
  | 1 => rfl

end Cert.KernelIdeal.Decode
-- ==== Proof.PI.Run.lean ====
/-
  The kernel's three loops, column by column: the path values, the stored decisions, the walk back, and so the body's
  result.
-/
module

public import proofs.«01_k».proof.Proof.PI.Decode

@[expose] public section

set_option maxRecDepth 16384

noncomputable section

namespace Cert.KernelIdeal.Run

open Cert.KernelIdeal.Decode Cert.KernelIdeal Cert.KernelIdeal.Gen Cert.KernelIdeal.Steps Cert.KernelIdeal.Columns Cert.KernelIdeal.Trips
open Idealize.ShloMosaic

variable {S : Vec Ideal S192x2 .bf16} {W : Vec Ideal S12x64 .bf16}

theorem cast_apply (f : IVec S1x48x4096 32) (n : Fin 48) (b : Fin 4096) : shapeCast S48x4096 f shapeCasts_S1x48x4096_S48x4096 (ix2 n b) = f (ix3 (0 : Fin 1) n b) := by
  pointwise

/-- The block a store wrote, read back. -/
theorem read_stored (v : View sig .tc .vmem S11x48x4096 .i32) (f : BufTy.Contents (Elt Ideal) v.ty) (off : Fin 3 → ℕ) (inb : ∀ a, off a + S1x48x4096.size a ≤ S11x48x4096.size a)
    (w : IVec S1x48x4096 32) (L : List (View.Piece (Elt Ideal) S11x48x4096 .i32)) (k : ℕ) (h : off = ![k, 0, 0]) (g : Fin 11) (n : Fin 48) (b : Fin 4096) (hg : g.val = k) :
    v.read (Elt Ideal) (v.writes (Elt Ideal) f (⟨Rect.unit (s := S11x48x4096) off S1x48x4096.size inb, w⟩ :: L)) (ix3 g n b) = w (ix3 (0 : Fin 1) n b) :=
  View.read_writes_cons_unit_of_mem v f inb w L (ix3 g n b) (ix3 (0 : Fin 1) n b) h (by
    intro a; fin_cases a
    · show g.val = k + 0; omega
    · show n.val = 0 + n.val; omega
    · show b.val = 0 + b.val; omega)

theorem read_other (v : View sig .tc .vmem S11x48x4096 .i32) (f : BufTy.Contents (Elt Ideal) v.ty) (off : Fin 3 → ℕ) (inb : ∀ a, off a + S1x48x4096.size a ≤ S11x48x4096.size a)
    (w : IVec S1x48x4096 32) (L : List (View.Piece (Elt Ideal) S11x48x4096 .i32)) (k : ℕ) (h : off = ![k, 0, 0]) (g : Fin 11) (n : Fin 48) (b : Fin 4096) (hg : g.val < k) :
    v.read (Elt Ideal) (v.writes (Elt Ideal) f (⟨Rect.unit (s := S11x48x4096) off S1x48x4096.size inb, w⟩ :: L)) (ix3 g n b)
      = v.read (Elt Ideal) (v.writes (Elt Ideal) f L) (ix3 g n b) :=
  View.read_writes_cons_unit_of_not_mem v f inb w L (ix3 g n b) h 0 (Or.inl hg)

section

variable {𝒱 : Variants} {c : Dev nD} {bd : Option 𝒱.V} {i : grid0.Coords} {arg1 : Memref sig .tc .vmem S16x8x4096 .f32} {harg1 : arg1.IsWhole} {arg2 : Memref sig .tc .vmem S16x8x4096 .f32} {harg2 : arg2.IsWhole}
  {arg3 : Memref sig .tc .vmem S192x2 .bf16} {harg3 : arg3.IsWhole} {arg4 : Memref sig .tc .vmem S12x64 .bf16} {harg4 : arg4.IsWhole} {arg5 : Memref sig .tc .vmem S16x8x4096 .f32} {harg5 : arg5.IsWhole} {arg6 : Memref sig .tc .vmem S11x48x4096 .i32} {harg6 : arg6.IsWhole}
  (x1 x2 : Vec Ideal S16x8x4096 .f32)

/-- The first loop's carried value: after `k` trips the path values before step `24 k`. -/
theorem carried1 (hS : Signs S) (b : Fin 4096) : ∀ k, k ≤ k0_t1_loop.trips →
    Holds 0 (st_k0_t1 (F := Ideal) 𝒱 c bd i arg1 harg1 arg2 harg2 arg3 harg3 arg4 harg4 arg5 harg5 arg6 harg6 S (harg1.unread x1) (harg2.unread x2) k0_pay1 k) b (Viterbi.paths (values x1 x2 b) (24 * k))
  | 0, _ => fun q => by
    show Ideal.ofBits FTy.f32 0x00000000#32 = 0
    exact Ideal.ofBits_zero_f32
  | k + 1, hk => by
    rw [show k + 1 = (⟨k, hk⟩ : Fin k0_t1_loop.trips).val + 1 from rfl, st_k0_t1_succ, trip1]
    have := paths_eq hS _ _ (values x1 x2 b) (24 * k)
      (received_eq x1 x2 _ _ k b (fun j hj i => rows1_apply harg1 x1 ⟨k, hk⟩ j hj i b) (fun j hj i => rows1_apply harg2 x2 ⟨k, hk⟩ j hj i b))
      (carried1 hS b k (by omega)) 24 le_rfl
    rwa [show 24 * k + 24 = 24 * (k + 1) by omega] at this

/-- The second loop's carried value: after `k` trips the path values before step `24 (5 + k)`. -/
theorem carried2 (hS : Signs S) (b : Fin 4096) (init : FVec Ideal S64x4096 .f32) (hi : Holds 0 init b (Viterbi.paths (values x1 x2 b) (24 * 5))) : ∀ k, k ≤ k0_t2_loop.trips →
    Holds 0 (st_k0_t2 (F := Ideal) 𝒱 c bd i arg1 harg1 arg2 harg2 arg3 harg3 arg4 harg4 arg5 harg5 arg6 harg6 S W (harg1.unread x1) (harg2.unread x2) init k).1 b (Viterbi.paths (values x1 x2 b) (24 * (5 + k)))
  | 0, _ => hi
  | k + 1, hk => by
    rw [show k + 1 = (⟨k, hk⟩ : Fin k0_t2_loop.trips).val + 1 from rfl, st_k0_t2_succ]
    show Holds 0 (tripR_k0_t2 (F := Ideal) 𝒱 c bd i arg1 harg1 arg2 harg2 arg3 harg3 arg4 harg4 arg5 harg5 arg6 harg6 S W (harg1.unread x1) (harg2.unread x2) ⟨k, hk⟩ _) b _
    rw [trip2]
    have := paths_eq hS _ _ (values x1 x2 b) (24 * (5 + k))
      (received_eq x1 x2 _ _ (5 + k) b (fun j hj i => rows2_apply harg1 x1 ⟨k, hk⟩ j hj i b) (fun j hj i => rows2_apply harg2 x2 ⟨k, hk⟩ j hj i b))
      (carried2 hS b init hi k (by omega)) 24 le_rfl
    rwa [show 24 * (5 + k) + 24 = 24 * (5 + (k + 1)) by omega] at this

/-- The stored decisions: after `k` trips, block `g < k` has the decisions of the steps from `24 (5 + g)`. -/
theorem stored (hS : Signs S) (hW : Weights W) (b : Fin 4096) (init : FVec Ideal S64x4096 .f32) (hi : Holds 0 init b (Viterbi.paths (values x1 x2 b) (24 * 5)))
    (f : BufTy.Contents (Elt Ideal) arg6.view.ty) (g : Fin 11) (u : ℕ) (hu : u < 24) (h : Fin 2) : ∀ k, k ≤ k0_t2_loop.trips → g.val < k →
    Viterbi.Word (arg6.view.read (Elt Ideal) (arg6.view.writes (Elt Ideal) f (st_k0_t2 (F := Ideal) 𝒱 c bd i arg1 harg1 arg2 harg2 arg3 harg3 arg4 harg4 arg5 harg5 arg6 harg6 S W (harg1.unread x1) (harg2.unread x2) init k).2)
      (ix3 g (⟨2 * u + h.val, by omega⟩ : Fin 48) b)) (Viterbi.decs (values x1 x2 b) (24 * (5 + g.val) + u)) h
  | 0, _, hg => absurd hg (Nat.not_lt_zero _)
  | k + 1, hk, hg => by
    have hk' : (⟨k, hk⟩ : Fin k0_t2_loop.trips).val = k := rfl
    rw [show k + 1 = (⟨k, hk⟩ : Fin k0_t2_loop.trips).val + 1 from rfl, st_k0_t2_succ]
    show Viterbi.Word (arg6.view.read (Elt Ideal) (arg6.view.writes (Elt Ideal) f (tripL_k0_t2 (F := Ideal) 𝒱 c bd i arg1 harg1 arg2 harg2 arg3 harg3 arg4 harg4 arg5 harg5 arg6 harg6 S W (harg1.unread x1) (harg2.unread x2) ⟨k, hk⟩ _ ++ _)) _) _ _
    rw [store2, List.singleton_append]
    by_cases e : g.val = k
    · rw [read_stored _ _ _ _ _ _ k (off3 ⟨k, hk⟩) _ _ _ e, block_apply, e]
      exact packed_word hS hW _ _ (values x1 x2 b) (24 * (5 + k))
        (received_eq x1 x2 _ _ (5 + k) b (fun j hj i => rows2_apply harg1 x1 ⟨k, hk⟩ j hj i b) (fun j hj i => rows2_apply harg2 x2 ⟨k, hk⟩ j hj i b))
        (carried2 x1 x2 hS b init hi k (by omega)) u hu h
    · rw [read_other _ _ _ _ _ _ k (off3 ⟨k, hk⟩) _ _ _ (by omega)]
      exact stored hS hW b init hi f g u hu h k (by omega) (by omega)

/-- A block of the scratch as a trip of the third loop reads it. -/
theorem tile_apply (X : BufTy.Contents (Elt Ideal) arg6.view.ty) (k : Fin k0_t3_loop.trips) (n : Fin 48) (b : Fin 4096) :
    tile (F := Ideal) arg6 X k (ix2 n b) = arg6.view.read (Elt Ideal) X (ix3 (⟨10 - k.val, by omega⟩ : Fin 11) n b) := by
  unfold tile
  rw [cast_apply, View.readAt_eq_ld]
  refine View.ld_unit_apply_of _ _ _ _ _ _ fun a => ?_
  refine Eq.trans ?_ (congrArg (· + (ix3 (0 : Fin 1) n b a).val) (congrFun (off4 k) a).symm)
  fin_cases a
  · show 10 - k.val = 10 - k.val + 0; rfl
  · show n.val = 0 + n.val; omega
  · show b.val = 0 + b.val; omega

/-- The walk's state and rows. -/
theorem walked (X : BufTy.Contents (Elt Ideal) arg6.view.ty) (D : ℕ → Fin 64 → Bool) (b : Fin 4096)
    (hX : ∀ k : Fin k0_t3_loop.trips, Packed (tile (F := Ideal) arg6 X k) b D (24 * k.val)) (init : IVec S1x4096 32) (hi : init (ix2 (0 : Fin 1) b) = 0#32) : ∀ k, k ≤ k0_t3_loop.trips →
    (Back.walk (F := Ideal) 𝒱 c bd i arg1 harg1 arg2 harg2 arg3 harg3 arg4 harg4 arg5 harg5 arg6 harg6 X init k).1 (ix2 (0 : Fin 1) b) = BitVec.ofNat 32 (Viterbi.state D (24 * k)).val
  | 0, _ => hi
  | k + 1, hk => by
    rw [show k + 1 = (⟨k, hk⟩ : Fin k0_t3_loop.trips).val + 1 from rfl, Back.walk_succ]
    show (Back.trip (F := Ideal) 𝒱 c bd i arg1 harg1 arg2 harg2 arg3 harg3 arg4 harg4 arg5 harg5 arg6 harg6 X ⟨k, hk⟩).1 _ (ix2 (0 : Fin 1) b) = _
    rw [trip3]
    have := behind_eq (hX ⟨k, hk⟩) (walked X D b hX init hi k (by omega)) 24 le_rfl
    rwa [show 24 * (⟨k, hk⟩ : Fin k0_t3_loop.trips).val + 24 = 24 * ((⟨k, hk⟩ : Fin k0_t3_loop.trips).val + 1) by omega] at this

theorem bits_eq (X : BufTy.Contents (Elt Ideal) arg6.view.ty) (D : ℕ → Fin 64 → Bool) (b : Fin 4096)
    (hX : ∀ k : Fin k0_t3_loop.trips, Packed (tile (F := Ideal) arg6 X k) b D (24 * k.val)) (init : IVec S1x4096 32) (hi : init (ix2 (0 : Fin 1) b) = 0#32) (r : Fin 16) (j : Fin 8) :
    Back.bits (F := Ideal) 𝒱 c bd i arg1 harg1 arg2 harg2 arg3 harg3 arg4 harg4 arg5 harg5 arg6 harg6 X init (ix3 r j b) = Viterbi.decoded D (128 + 8 * r.val + j.val) := by
  have hk : (31 - r.val) / 3 < k0_t3_loop.trips := Back.row_trip r
  have hw := walked (𝒱 := 𝒱) (c := c) (bd := bd) (i := i) (harg1 := harg1) (harg2 := harg2) (harg3 := harg3) (harg4 := harg4) (harg5 := harg5) (harg6 := harg6) X D b hX init hi ((31 - r.val) / 3) (by omega)
  show Back.pick (Back.trip (F := Ideal) 𝒱 c bd i arg1 harg1 arg2 harg2 arg3 harg3 arg4 harg4 arg5 harg5 arg6 harg6 X ⟨(31 - r.val) / 3, hk⟩).2.1 (Back.trip (F := Ideal) 𝒱 c bd i arg1 harg1 arg2 harg2 arg3 harg3 arg4 harg4 arg5 harg5 arg6 harg6 X ⟨(31 - r.val) / 3, hk⟩).2.2.1
    (Back.trip (F := Ideal) 𝒱 c bd i arg1 harg1 arg2 harg2 arg3 harg3 arg4 harg4 arg5 harg5 arg6 harg6 X ⟨(31 - r.val) / 3, hk⟩).2.2.2.1 (Back.walk (F := Ideal) 𝒱 c bd i arg1 harg1 arg2 harg2 arg3 harg3 arg4 harg4 arg5 harg5 arg6 harg6 X init ((31 - r.val) / 3)).1 r.val (ix3 (0 : Fin 1) j b) = _
  unfold Back.pick Viterbi.decoded
  split
  · rw [store3_3, group_eq (hX ⟨_, hk⟩) hw 16 (by omega)]
    congr 2
    show 24 * ((31 - r.val) / 3) + (16 + (7 - j.val)) = _
    omega
  · split
    · rw [store3_2, group_eq (hX ⟨_, hk⟩) hw 8 (by omega)]
      congr 2
      show 24 * ((31 - r.val) / 3) + (8 + (7 - j.val)) = _
      omega
    · rw [store3_1, group_eq (hX ⟨_, hk⟩) hw 0 (by omega)]
      congr 2
      show 24 * ((31 - r.val) / 3) + (0 + (7 - j.val)) = _
      omega

/-- The whole body: the decoded bits of the steps from 128 to 255. -/
theorem result_eq (hS : Signs S) (hW : Weights W) (r : Fin 16) (j : Fin 8) (b : Fin 4096) :
    Body.result (F := Ideal) c i arg1 harg1 arg2 harg2 arg3 harg3 arg4 harg4 arg5 harg5 arg6 harg6 x1 x2 S W (ix3 r j b)
      = Viterbi.decoded (Viterbi.decs (values x1 x2 b)) (128 + 8 * r.val + j.val) := by
  unfold Body.result
  refine bits_eq _ _ b (fun k n hn h => ?_) k0_pay4 rfl r j
  have hk : k.val < 11 := trips3 ▸ k.isLt
  rw [tile_apply]
  have := stored (W := W) (𝒱 := Body.𝒱₀) (c := c) (bd := none) (i := i) (harg1 := harg1) (harg2 := harg2) (harg3 := harg3) (harg4 := harg4) (harg5 := harg5) (harg6 := harg6) x1 x2 hS hW b _
    (carried1 (𝒱 := Body.𝒱₀) (c := c) (bd := none) (i := i) (harg1 := harg1) (harg2 := harg2) (harg3 := harg3) (harg4 := harg4) (harg5 := harg5) (harg6 := harg6) x1 x2 hS b k0_t1_loop.trips le_rfl)
    arg6.view.junk ⟨10 - k.val, by omega⟩ (23 - n) (by omega) h k0_t2_loop.trips le_rfl (by rw [trips2]; show 10 - k.val < 11; omega)
  rw [show (24 * (5 + (10 - k.val)) + (23 - n)) = 383 - (24 * k.val + n) by omega,
    show (⟨2 * (23 - n) + h.val, by omega⟩ : Fin 48) = ⟨46 - 2 * n + h.val, by omega⟩ from Fin.ext (by show 2 * (23 - n) + h.val = 46 - 2 * n + h.val; omega)] at this
  exact this

end

end Cert.KernelIdeal.Run
-- ==== Proof.PI.Tables.lean ====
/-
  The kernel's two constant tables: the signs of the code's outputs, and the weights that pack sixteen decisions into a
  number, each in the three layouts of the rows.
-/
module

public import proofs.«01_k».proof.Proof.PI.Decode

@[expose] public section

set_option maxRecDepth 16384

noncomputable section

namespace Cert.KernelIdeal.Tables

open Cert.KernelIdeal Cert.KernelIdeal.Columns Cert.KernelIdeal.Decode
open Idealize.ShloMosaic

theorem sign_bits : ∀ (k : Fin 3) (q : Fin 64) (r : Fin 2),
    lit0 (S192x2.rowMajor (ix2 (⟨64 * k.val + q.val, by omega⟩ : Fin 192) r)) = if Viterbi.neg (Viterbi.rot (k.val + 1) q) r then 0xBF80#16 else 0x3F80#16 := by
  decide +kernel

theorem weight_bits : ∀ (k : Fin 3) (w : Fin 4) (q : Fin 64),
    lit1 (S12x64.rowMajor (ix2 (⟨4 * k.val + w.val, by omega⟩ : Fin 12) q))
      = if (Viterbi.rot (k.val + 1) q).val / 16 = w.val then BitVec.ofNat 16 ((127 + (Viterbi.rot (k.val + 1) q).val % 16) * 128) else 0 := by
  decide +kernel

theorem one_bits : Ideal.ofBits .bf16 0x3F80#16 = 1 := Ideal.ofBits_one_bf16

theorem power_bits (n : ℕ) (h : n < 16) : Ideal.ofBits .bf16 (BitVec.ofNat 16 ((127 + n) * 128)) = ((2 ^ n : ℕ) : EReal) := by
  interval_cases n <;> (simp [Ideal.ofBits, Ideal.ieee, -EReal.coe_mul]; norm_num; try norm_cast)

theorem signs : Signs (fun i => FloatOps.ofBits (F := Ideal) .bf16 (lit0 (S192x2.rowMajor i)) : Vec Ideal S192x2 .bf16) := fun k q r => by
  show Ideal.ofBits .bf16 (lit0 _) = _
  rw [sign_bits k q r]
  unfold Viterbi.sign
  split
  · exact Ideal.ofBits_neg_one_bf16
  · exact one_bits

theorem weights : Weights (fun i => FloatOps.ofBits (F := Ideal) .bf16 (lit1 (S12x64.rowMajor i)) : Vec Ideal S12x64 .bf16) := fun k w q => by
  show Ideal.ofBits .bf16 (lit1 _) = _
  rw [weight_bits k w q]
  split
  · exact power_bits _ (Nat.mod_lt _ (by decide))
  · simp [Ideal.ofBits, Ideal.ieee]

end Cert.KernelIdeal.Tables
-- ==== Proof.PI.Value.lean ====
/-
  The kernel's result: at word `b` and column `n`, the bit decoded at step `128 + n` of the word's received values.
-/
module

public import proofs.«01_k».proof.Proof.PI.Run
public import proofs.«01_k».proof.Proof.PI.Tables
public import Idealize.ShloMosaic.Lib.StableHlo.RunRead
public import Idealize.ShloMosaic.Lib.Pipeline.ValueKit

@[expose] public section

set_option maxRecDepth 16384

noncomputable section

namespace Cert.KernelIdeal.Value

open Cert.KernelIdeal Cert.KernelIdeal.Gen Cert.KernelIdeal.Columns Cert.KernelIdeal.Decode Cert.KernelIdeal.Body
open Idealize.ShloMosaic Idealize.ShloMosaic.TcCoe Idealize.ShloMosaic.StableHlo

variable (m : (ℓ : Loc nD τ sig) → Buf (Elt Ideal) ℓ) (c : Dev nD)

/-- The argument. -/
def x (b : Fin 4096) (n : Fin 256) : EReal := (m ((c.tc : Thread nD τ).loc main_arg0) : FVec Ideal S4096x256 .f32) (ix2 b n)

theorem entry_even (r : Fin 16) (i : Fin 8) (b : Fin 4096) :
    (V m c main_v2 : Vec Ideal S16x8x4096 .f32) (ix3 r i b) = x m c b ⟨2 * (8 * r.val + i.val), by omega⟩ := by
  unfold x
  show (after hostOps0 (fun b => m (c, b)) (Proc.devRef .tc main_v2) : Vec Ideal S16x8x4096 .f32) _ = _
  after_reads_simp
  pointwise
  blk_ext

theorem entry_odd (r : Fin 16) (i : Fin 8) (b : Fin 4096) :
    (V m c main_v5 : Vec Ideal S16x8x4096 .f32) (ix3 r i b) = x m c b ⟨2 * (8 * r.val + i.val) + 1, by omega⟩ := by
  unfold x
  show (after hostOps0 (fun b => m (c, b)) (Proc.devRef .tc main_v5) : Vec Ideal S16x8x4096 .f32) _ = _
  after_reads_simp
  pointwise
  blk_ext

theorem entry_signs : (V m c main_cst : Vec Ideal S192x2 .bf16) = fun i => FloatOps.ofBits (F := Ideal) .bf16 (lit0 (S192x2.rowMajor i)) := by
  show (after hostOps0 (fun b => m (c, b)) (Proc.devRef .tc main_cst) : Vec Ideal S192x2 .bf16) = _
  after_reads_simp
  rfl

theorem entry_weights : (V m c main_cst_0 : Vec Ideal S12x64 .bf16) = fun i => FloatOps.ofBits (F := Ideal) .bf16 (lit1 (S12x64.rowMajor i)) := by
  show (after hostOps0 (fun b => m (c, b)) (Proc.devRef .tc main_cst_0) : Vec Ideal S12x64 .bf16) = _
  after_reads_simp
  rfl

theorem index0 : ∀ (t : Fin grid0.N) a, win0_0.index t a = 0 := by decide +kernel
theorem index1 : ∀ (t : Fin grid0.N) a, win0_1.index t a = 0 := by decide +kernel
theorem index2 : ∀ (t : Fin grid0.N) a, win0_2.index t a = 0 := by decide +kernel
theorem index3 : ∀ (t : Fin grid0.N) a, win0_3.index t a = 0 := by decide +kernel
theorem index4 : ∀ (t : Fin grid0.N) a, win0_4.index t a = 0 := by decide +kernel

theorem block0 (t : Fin cfg0.N) : (iblk m c 0 t : Vec Ideal S16x8x4096 .f32) = V m c main_v2 := by
  funext y; blk_ext [iblk, index0 t]
theorem block1 (t : Fin cfg0.N) : (iblk m c 1 t : Vec Ideal S16x8x4096 .f32) = V m c main_v5 := by
  funext y; blk_ext [iblk, index1 t]
theorem block2 (t : Fin cfg0.N) : (iblk m c 2 t : Vec Ideal S192x2 .bf16) = V m c main_cst := by
  funext y; blk_ext [iblk, index2 t]
theorem block3 (t : Fin cfg0.N) : (iblk m c 3 t : Vec Ideal S12x64 .bf16) = V m c main_cst_0 := by
  funext y; blk_ext [iblk, index3 t]

theorem twenty : Ideal.ofBits .f32 0x41A00000#32 = ((20 : ℝ) : EReal) := by
  simp [Ideal.ofBits, Ideal.ieee, -EReal.coe_mul]; norm_num
theorem minus_twenty : Ideal.ofBits .f32 0xC1A00000#32 = ((-20 : ℝ) : EReal) := by
  simp [Ideal.ofBits, Ideal.ieee, -EReal.coe_mul]; norm_num

theorem values_eq (b : Fin 4096) : values (V m c main_v2) (V m c main_v5) b = Viterbi.received (x m c) b := by
  funext t r
  unfold values Viterbi.received clip
  rw [twenty, minus_twenty]
  match r with
  | 0 =>
    rw [if_pos rfl, entry_even]
    congr 3
    apply Fin.ext
    show 2 * (8 * (t / 8 % 16) + t % 8) = 2 * (t % 128) + 0
    omega
  | 1 =>
    rw [if_neg (by decide), entry_odd]
    congr 3
    apply Fin.ext
    show 2 * (8 * (t / 8 % 16) + t % 8) + 1 = 2 * (t % 128) + 1
    omega

/-- What the body leaves in the output's block. -/
theorem out_apply (t : Fin cfg0.N) (r : Fin 16) (j : Fin 8) (b : Fin 4096) :
    outsAt m c t (ix3 r j b) = Viterbi.decoded (Viterbi.decs (Viterbi.received (x m c) b)) (128 + 8 * r.val + j.val) := by
  unfold outsAt
  rw [block0, block1, block2, block3, entry_signs, entry_weights, Run.result_eq _ _ Tables.signs Tables.weights, values_eq]

/-- The pipeline's result array. -/
def array : Vec Ideal S16x8x4096 .f32 := outsAt m c (⟨0, by decide⟩ : Fin cfg0.N)

theorem arr_eq : (dats m 0 c).arrAt 4 cfg0.N = array m c := by
  refine (dats m 0 c).arrAt_eq_of_after_last 4 (⟨0, by decide⟩ : Fin cfg0.N) (by decide +kernel) _ fun j => ?_
  rw [after_4]
  unfold array
  blk_simp [index4]
  rfl

/-- The whole result. -/
def result : FVec Ideal S4096x128 .f32 := transpose S4096x128 [1, 0] (shapeCast S128x4096 (array m c) shapeCasts_S16x8x4096_S128x4096) transposes_S128x4096_S4096x128_1_0

theorem result_apply (b : Fin 4096) (n : Fin 128) :
    result m c (ix2 b n) = Viterbi.decoded (Viterbi.decs (Viterbi.received (x m c) b)) (128 + n.val) := by
  have h : result m c (ix2 b n) = array m c (ix3 (⟨n.val / 8, by omega⟩ : Fin 16) (⟨n.val % 8, by omega⟩ : Fin 8) b) := by
    unfold result
    pointwise
    blk_ext
  rw [h]
  unfold array
  rw [out_apply]
  congr 1
  show 128 + 8 * (n.val / 8) + n.val % 8 = _
  omega

theorem tail_eq : Pipeline.afterTail₀ cfgs (dats m) 0 (V0 m) [hostOps1] c main_v8 = result m c := by
  unfold Pipeline.afterTail₀
  show after hostOps1 (Pipeline.withArrays spec0 c (V0 m c) fun w => (dats m 0 c).arrAt w cfg0.N) (Proc.devRef .tc main_v8) = _
  after_reads_simp
  erw [Pipeline.withArrays_arr spec0 (by decide) c (V0 m c) (fun w => (dats m 0 c).arrAt w cfg0.N) 4]
  rw [arr_eq]
  rfl

/-- From any memory the kernel ends with its result as stated and its argument as it was. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v8) = result m c
      ∧ r.2.mem ((c.tc : Thread nD τ).loc main_arg0) = m ((c.tc : Thread nD τ).loc main_arg0)) :=
  (θ_run defs _ _).mono (fun _ h c => ⟨(h.1.rest_eq c main_v8 (Pipeline.mem_restRefs_of main_v8 (by decide) (by decide))).trans (tail_eq m c),
    (h.1.rest_eq c main_arg0 (Pipeline.mem_restRefs_of main_arg0 (by decide) (by decide))).trans (W_main_arg0 m (dats m) c)⟩) (run_main m ρ)

end Cert.KernelIdeal.Value
-- ==== Proof.RI.Steps.lean ====
/-
  What one trip of each of the reference's loops leaves in the buffers it carries on, as functions of what it finds.
-/
module

public import proofs.«01_k».proof.Proof.RI.Run

@[expose] public section

set_option maxRecDepth 16384
set_option maxHeartbeats 4000000

noncomputable section

namespace Cert.ReferenceIdeal.Steps

open Cert.ReferenceIdeal Cert.ReferenceIdeal.Ops Cert.ReferenceIdeal.Facts₀ Cert.ReferenceIdeal.Facts
open Idealize.ShloMosaic Idealize.ShloMosaic.StableHlo Idealize.ShloMosaic.Tactic

variable {F : FTy → Type} [FloatOps F]

/-- A zero index. -/
abbrev zero : C F S_ .i32 := constantI S_ 32 0#32

/-- Where a slice begins: the given indices, read signed. -/
abbrev start {n : ℕ} (i : Fin n → C F S_ .i32) (k : Fin n) : ℤ := (i k (Shape.Idx.first h_S_)).toInt

/-- One step's pairs of received values. -/
def pairs (l : C F S384x4096x2 .f32) (n : C F S_ .i32) : C F S4096x2 .f32 :=
  shapeCast S4096x2 (Host.dynamicSlice S1x4096x2 l (start (F := F) ![n, zero (F := F), zero (F := F)]) sliceFits_S384x4096x2_S1x4096x2) shapeCasts_S1x4096x2_S4096x2

/-- The transition table, its negative entries moved up by 64. -/
def table (tt : C F S64x2 .i32) : C F S64x2x1 .i32 :=
  broadcastInDim S64x2x1 ![0, 1] bcast_S64x2_S64x2x1_0_1 (select (cmpi .slt tt (broadcastInDim S64x2 ![] bcast_S_S64x2 (constantI S_ 32 0#32)))
    (addi tt (broadcastInDim S64x2 ![] bcast_S_S64x2 (constantI S_ 32 64#32))) tt)

/-- The two path values of every state. -/
def cands (l : C F S384x4096x2 .f32) (sym : C F S64x2x2 .f32) (tt : C F S64x2 .i32) (n : C F S_ .i32) (M : C F S4096x64 .f32) : C F S4096x64x2 .f32 :=
  addf (Host.gather gather_S4096x64_S64x2x1_S4096x64x2_0_1_n_n_1_2_40961 M (table (F := F) tt))
    (Host.dotGeneral dot_S4096x2_S64x2x2_S4096x64x2_1_2_0_01_n_n none (pairs l n) sym)

/-- The better of the two. -/
def better (x : C F S4096x64x2 .f32) : C F S4096x64 .f32 :=
  Host.reduce FloatOps.maximumf x (constant S_ .f32 0xFF800000#32) reducesTo_S4096x64x2_S4096x64_d2 h_S_

/-- The path values brought down by the greatest. -/
def lowered (x : C F S4096x64x2 .f32) : C F S4096x64 .f32 :=
  subf (better x) (broadcastInDim S4096x64 ![0, 1] bcast_S4096x1_S4096x64_0_1 (broadcastInDim S4096x1 ![0] bcast_S4096_S4096x1_0
    (Host.reduce FloatOps.maximumf (better x) (constant S_ .f32 0xFF800000#32) reducesTo_S4096x64_S4096_d1 h_S_)))

/-- Which of the two is better. -/
def which (x : C F S4096x64x2 .f32) : C F S4096x64 .i32 := fun j =>
  (Host.argReduce reducer_argmax_f32_i32 x (iotaInDim S4096x64x2 32 2) (constant S_ .f32 0xFF800000#32) (constantI S_ 32 0#32) reducesTo_S4096x64x2_S4096x64_d2 h_S_ j).2

/-- The state numbers, the negative ones moved up by 64. -/
def states (v : C F S64 .i32) : C F S4096x64x1 .i32 :=
  broadcastInDim S4096x64x1 ![0, 1] bcast_S4096x64_S4096x64x1_0_1 (broadcastInDim S4096x64 ![0, 1] bcast_S1x64_S4096x64_0_1
    (select (cmpi .slt (broadcastInDim S1x64 ![1] bcast_S64_S1x64_1 v) (broadcastInDim S1x64 ![] bcast_S_S1x64 (constantI S_ 32 0#32)))
      (addi (broadcastInDim S1x64 ![1] bcast_S64_S1x64_1 v) (broadcastInDim S1x64 ![] bcast_S_S1x64 (constantI S_ 32 64#32))) (broadcastInDim S1x64 ![1] bcast_S64_S1x64_1 v)))

/-- The edge numbers, the negative ones moved up by 2. -/
def edges (w : C F S4096x64 .i32) : C F S4096x64x1 .i32 :=
  broadcastInDim S4096x64x1 ![0, 1] bcast_S4096x64_S4096x64x1_0_1 (select (cmpi .slt w (broadcastInDim S4096x64 ![] bcast_S_S4096x64 (constantI S_ 32 0#32)))
    (addi w (broadcastInDim S4096x64 ![] bcast_S_S4096x64 (constantI S_ 32 2#32))) w)

/-- States and edges side by side. -/
def joined (a b : C F S4096x64x1 .i32) : C F S4096x64x2 .i32 :=
  concatenate S4096x64x2 2 [⟨S4096x64x1, a⟩, ⟨S4096x64x1, b⟩] concatenates_S4096x64x1_S4096x64x1_S4096x64x2_d2

/-- The state each state's better path comes from. -/
def chosen (tt : C F S64x2 .i32) (v : C F S64 .i32) (w : C F S4096x64 .i32) : C F S4096x64 .f32 :=
  sitofp .f32 (Host.gather gather_S64x2_S4096x64x2_S4096x64_n_01_n_n_01_2_11 tt (joined (F := F) (states (F := F) v) (edges (F := F) w)))

/-- One step's entry put into the array of steps. -/
def put (x : C F S384x4096x64 .f32) (u : C F S4096x64 .f32) (n : C F S_ .i32) : C F S384x4096x64 .f32 :=
  Host.dynamicUpdateSlice x (broadcastInDim S1x4096x64 ![1, 2] bcast_S4096x64_S1x4096x64_1_2 u) (start (F := F) ![n, zero (F := F), zero (F := F)]) updateFits_S384x4096x64_S1x4096x64

section First

variable (X : Valuation τ sig (Elt F))

/-- The trip's path values. -/
abbrev found : C F S4096x64x2 .f32 :=
  cands (X (Proc.devRef .tc main_v10_0)) (X (Proc.devRef .tc main_v10_1)) (X (Proc.devRef .tc main_v10_2)) (X (Proc.devRef .tc main_v10_4)) (X (Proc.devRef .tc main_v10_5))

theorem stepA_0 : after body0Ops (after cond0Ops X) (Proc.devRef .tc main_v10_0) = X (Proc.devRef .tc main_v10_0) := by after_reads_simp
theorem stepA_1 : after body0Ops (after cond0Ops X) (Proc.devRef .tc main_v10_1) = X (Proc.devRef .tc main_v10_1) := by after_reads_simp
theorem stepA_2 : after body0Ops (after cond0Ops X) (Proc.devRef .tc main_v10_2) = X (Proc.devRef .tc main_v10_2) := by after_reads_simp
theorem stepA_3 : after body0Ops (after cond0Ops X) (Proc.devRef .tc main_v10_3) = X (Proc.devRef .tc main_v10_3) := by after_reads_simp

theorem stepA_5 : after body0Ops (after cond0Ops X) (Proc.devRef .tc main_v10_5) = lowered (found X) := by
  after_reads_simp [unaryIndexed_result_read, binaryIndexed_result_read, indexContents_tref_cons, indexContents_tref_empty]
  rfl

theorem upto_41 : upto body0Ops (after cond0Ops X) 40 (Proc.devRef .tc main_while0b_v41) = states (F := F) (X (Proc.devRef .tc main_v10_3)) := by
  after_reads_simp [unaryIndexed_result_read, binaryIndexed_result_read, indexContents_tref_cons, indexContents_tref_empty]
  rfl

theorem upto_42 : upto body0Ops (after cond0Ops X) 40 (Proc.devRef .tc main_while0b_v42) = edges (F := F) (which (found X)) := by
  after_reads_simp [unaryIndexed_result_read, binaryIndexed_result_read, indexContents_tref_cons, indexContents_tref_empty]
  rfl

theorem stepA_7 : after body0Ops (after cond0Ops X) (Proc.devRef .tc main_v10_7)
    = put (X (Proc.devRef .tc main_v10_7)) (chosen (X (Proc.devRef .tc main_v10_2)) (X (Proc.devRef .tc main_v10_3)) (which (found X))) (X (Proc.devRef .tc main_v10_4)) := by
  after_reads_simp [unaryIndexed_result_read, binaryIndexed_result_read, indexContents_tref_cons, indexContents_tref_empty]
  unfold chosen
  rw [← upto_41 X, ← upto_42 X]
  rfl

end First

/-- Where the walk back stands: as many steps from the end. -/
def place (n : C F S_ .i32) : C F S_ .i32 :=
  subi (subi (constantI S_ 32 384#32 : C F S_ .i32) n) (constantI S_ 32 1#32)

/-- One step's entry taken from the array of steps. -/
def taken (x : C F S384x4096x64 .f32) (n : C F S_ .i32) : C F S4096x64 .f32 :=
  shapeCast S4096x64 (Host.dynamicSlice S1x4096x64 x (start (F := F) ![place (F := F) n, zero (F := F), zero (F := F)]) sliceFits_S384x4096x64_S1x4096x64) shapeCasts_S1x4096x64_S4096x64

/-- The words' numbers, the negative ones moved up by 4096. -/
def words (v : C F S4096 .i32) : C F S4096x1 .i32 :=
  broadcastInDim S4096x1 ![0] bcast_S4096_S4096x1_0 (select (cmpi .slt v (broadcastInDim S4096 ![] bcast_S_S4096 (constantI S_ 32 0#32)))
    (addi v (broadcastInDim S4096 ![] bcast_S_S4096 (constantI S_ 32 4096#32))) v)

/-- The words' states, the negative ones moved up by 64. -/
def places (v : C F S4096 .i32) : C F S4096x1 .i32 :=
  broadcastInDim S4096x1 ![0] bcast_S4096_S4096x1_0 (select (cmpi .slt v (broadcastInDim S4096 ![] bcast_S_S4096 (constantI S_ 32 0#32)))
    (addi v (broadcastInDim S4096 ![] bcast_S_S4096 (constantI S_ 32 64#32))) v)

/-- Words and states side by side. -/
def beside (a b : C F S4096x1 .i32) : C F S4096x2 .i32 :=
  concatenate S4096x2 1 [⟨S4096x1, a⟩, ⟨S4096x1, b⟩] concatenates_S4096x1_S4096x1_S4096x2_d1

/-- The states a step earlier. -/
def earlier (x : C F S384x4096x64 .f32) (n : C F S_ .i32) (v s : C F S4096 .i32) : C F S4096 .i32 :=
  fptosi 32 (Host.gather gather_S4096x64_S4096x2_S4096_n_01_n_n_01_1_11 (taken x n) (beside (F := F) (words (F := F) v) (places (F := F) s)))

/-- The divisor 2, or 1 were it 0. -/
def two : C F S_ .i32 := select (cmpi .eq (constantI S_ 32 2#32 : C F S_ .i32) (constantI S_ 32 0#32)) (constantI S_ 32 1#32 : C F S_ .i32) (constantI S_ 32 2#32)

/-- The remainder as the division leaves it. -/
def rest (s : C F S4096 .i32) : C F S4096 .i32 :=
  Host.remsi (addi s (broadcastInDim S4096 ![] bcast_S_S4096 (constantI S_ 32 1#32))) (broadcastInDim S4096 ![] bcast_S_S4096 (two (F := F)))

/-- The remainder with the divisor's sign. -/
def parity (s : C F S4096 .i32) : C F S4096 .i32 :=
  select (andi (cmpi .ne (cmpi .slt (rest (F := F) s) (broadcastInDim S4096 ![] bcast_S_S4096 (constantI S_ 32 0#32)))
      (broadcastInDim S4096 ![] bcast_S_S4096 (cmpi .slt (two (F := F)) (constantI S_ 32 0#32))))
    (cmpi .ne (rest (F := F) s) (broadcastInDim S4096 ![] bcast_S_S4096 (constantI S_ 32 0#32))))
    (addi (rest (F := F) s) (broadcastInDim S4096 ![] bcast_S_S4096 (two (F := F)))) (rest (F := F) s)

/-- The bits put into the array of bits. -/
def write (x : C F S384x4096 .f32) (s : C F S4096 .i32) (n : C F S_ .i32) : C F S384x4096 .f32 :=
  Host.dynamicUpdateSlice x (broadcastInDim S1x4096 ![1] bcast_S4096_S1x4096_1 (sitofp .f32 (parity (F := F) s))) (start (F := F) ![place (F := F) n, zero (F := F)]) updateFits_S384x4096_S1x4096

section Second

variable (X : Valuation τ sig (Elt F))

theorem stepB_0 : after body1Ops (after cond1Ops X) (Proc.devRef .tc main_v14_0) = X (Proc.devRef .tc main_v14_0) := by after_reads_simp
theorem stepB_1 : after body1Ops (after cond1Ops X) (Proc.devRef .tc main_v14_1) = X (Proc.devRef .tc main_v14_1) := by after_reads_simp

theorem upto_34 : upto body1Ops (after cond1Ops X) 50 (Proc.devRef .tc main_while1b_v34) = words (F := F) (X (Proc.devRef .tc main_v14_1)) := by
  after_reads_simp
  rfl

theorem upto_35 : upto body1Ops (after cond1Ops X) 50 (Proc.devRef .tc main_while1b_v35) = places (F := F) (X (Proc.devRef .tc main_v14_3)) := by
  after_reads_simp
  rfl

theorem stepB_3 : after body1Ops (after cond1Ops X) (Proc.devRef .tc main_v14_3)
    = earlier (X (Proc.devRef .tc main_v14_0)) (X (Proc.devRef .tc main_v14_2)) (X (Proc.devRef .tc main_v14_1)) (X (Proc.devRef .tc main_v14_3)) := by
  after_reads_simp [unaryIndexed_result_read, binaryIndexed_result_read, indexContents_tref_cons, indexContents_tref_empty]
  unfold earlier
  rw [← upto_34 X, ← upto_35 X]
  rfl

theorem stepB_4 : after body1Ops (after cond1Ops X) (Proc.devRef .tc main_v14_4)
    = write (X (Proc.devRef .tc main_v14_4)) (X (Proc.devRef .tc main_v14_3)) (X (Proc.devRef .tc main_v14_2)) := by
  after_reads_simp [unaryIndexed_result_read, binaryIndexed_result_read, indexContents_tref_cons, indexContents_tref_empty]
  rfl

end Second

section Ends

variable (X : Valuation τ sig (Elt F))

/-- The received values, three times over, clipped, step by step. -/
def spread (x : C F S4096x256 .f32) : C F S384x4096x2 .f32 :=
  transpose S384x4096x2 [1, 0, 2] (shapeCast S4096x384x2 (minimumf (broadcastInDim S4096x768 ![] bcast_S_S4096x768 (sitofp .f32 (constantI S_ 32 20#32 : C F S_ .i32)))
    (maximumf (broadcastInDim S4096x768 ![] bcast_S_S4096x768 (sitofp .f32 (constantI S_ 32 4294967276#32 : C F S_ .i32)))
      (shapeCast S4096x768 (broadcastInDim S1x4096x3x256 ![0, 1, 2, 3] bcast_S1x4096x1x256_S1x4096x3x256_0_1_2_3 (shapeCast S1x4096x1x256 x shapeCasts_S4096x256_S1x4096x1x256)) shapeCasts_S1x4096x3x256_S4096x768)))
    shapeCasts_S4096x768_S4096x384x2) transposes_S4096x384x2_S384x4096x2_1_0_2

theorem pre_0 : after preOps X (Proc.devRef .tc main_v10_0) = spread (X (Proc.devRef .tc main_arg0)) := by
  after_reads_simp
  rfl
theorem pre_1 : after preOps X (Proc.devRef .tc main_v10_1) = fun i => FloatOps.ofBits .f32 (lit1 (S64x2x2.rowMajor i)) := by
  after_reads_simp
  rfl
theorem pre_2 : after preOps X (Proc.devRef .tc main_v10_2) = fun i => lit0 (S64x2.rowMajor i) := by
  after_reads_simp
  rfl
theorem pre_3 : after preOps X (Proc.devRef .tc main_v10_3) = iotaInDim S64 32 0 := by
  after_reads_simp
  rfl
theorem pre_5 : after preOps X (Proc.devRef .tc main_v10_5) = broadcastInDim S4096x64 ![] bcast_S_S4096x64 (constant S_ .f32 0x00000000#32 : C F S_ .f32) := by
  after_reads_simp
  rfl

theorem mid_0 : after midOps (after cond0Ops X) (Proc.devRef .tc main_v14_0) = X (Proc.devRef .tc main_v10_7) := by
  after_reads_simp
  rfl
theorem mid_1 : after midOps (after cond0Ops X) (Proc.devRef .tc main_v14_1) = iotaInDim S4096 32 0 := by
  after_reads_simp
  rfl
theorem mid_3 : after midOps (after cond0Ops X) (Proc.devRef .tc main_v14_3) = broadcastInDim S4096 ![] bcast_S_S4096 (constantI S_ 32 0#32 : C F S_ .i32) := by
  after_reads_simp
  rfl

theorem post_16 : after postOps (after cond1Ops X) (Proc.devRef .tc main_v16)
    = extractStridedSlice S4096x128 ![0, 128] (transpose S4096x384 [1, 0] (X (Proc.devRef .tc main_v14_4) : C F S384x4096 .f32) transposes_S384x4096_S4096x384_1_0) slices_S4096x384_S4096x128_0_128 := by after_reads_simp

end Ends

end Cert.ReferenceIdeal.Steps
-- ==== Proof.RI.Gathers.lean ====
/-
  The reference's gathers read at an index, and the index its arg-max returns.
-/
module

public import proofs.«01_k».proof.Proof.RI.Steps
public import Idealize.ShloMosaic.Lib.IdealHost
public import Idealize.ShloMosaic.Lib.Pipeline.ValueKit

@[expose] public section

set_option maxRecDepth 16384

noncomputable section

namespace Cert.ReferenceIdeal.Reads

open Cert.ReferenceIdeal Cert.ReferenceIdeal.Ops Cert.ReferenceIdeal.Facts₀ Cert.ReferenceIdeal.Facts
open Idealize.ShloMosaic Idealize.ShloMosaic.StableHlo Idealize.ShloMosaic.Tactic

/-- A small number's word read signed. -/
theorem toInt_small (n : ℕ) (h : n < 2 ^ 31) : (BitVec.ofNat 32 n).toInt = (n : ℤ) := by
  rw [BitVec.toInt_eq_toNat_of_lt (by rw [BitVec.toNat_ofNat]; omega), BitVec.toNat_ofNat]
  omega

/-- Path values taken down the columns the start indices name. -/
theorem gather_metrics {α : Type} (x : S4096x64.Idx → α) (idx : IVec S64x2x1 32) (b : Fin 4096) (s : Fin 64) (e : Fin 2) :
    Host.gather gather_S4096x64_S64x2x1_S4096x64x2_0_1_n_n_1_2_40961 x idx (ix3 b s e) = x (ix2 b ⟨min (idx (ix3 s e 0)).toInt.toNat 63, by omega⟩) := by
  unfold Host.gather
  refine congrArg x ?_
  funext a
  refine Fin.ext ?_
  match a with
  | ⟨0, _⟩ => exact Nat.zero_add _
  | ⟨1, _⟩ =>
    show min (idx (GatherDims.siIdx gather_S4096x64_S64x2x1_S4096x64x2_0_1_n_n_1_2_40961 (ix3 b s e) _)).toInt.toNat 63 = min (idx (ix3 s e 0)).toInt.toNat 63
    congr 4
    funext c
    refine Fin.ext ?_
    match c with
    | ⟨0, _⟩ => rfl
    | ⟨1, _⟩ => rfl
    | ⟨2, _⟩ => rfl

/-- Table entries taken at rows and columns. -/
theorem gather_table {α : Type} (x : S64x2.Idx → α) (idx : IVec S4096x64x2 32) (b : Fin 4096) (s : Fin 64) :
    Host.gather gather_S64x2_S4096x64x2_S4096x64_n_01_n_n_01_2_11 x idx (ix2 b s)
      = x (ix2 ⟨min (idx (ix3 b s 0)).toInt.toNat 63, by omega⟩ ⟨min (idx (ix3 b s 1)).toInt.toNat 1, by omega⟩) := by
  unfold Host.gather
  refine congrArg x ?_
  funext a
  refine Fin.ext ?_
  match a with
  | ⟨0, _⟩ =>
    show min (idx (GatherDims.siIdx gather_S64x2_S4096x64x2_S4096x64_n_01_n_n_01_2_11 (ix2 b s) _)).toInt.toNat 63 = min (idx (ix3 b s 0)).toInt.toNat 63
    congr 4
    funext c
    refine Fin.ext ?_
    match c with
    | ⟨0, _⟩ => rfl
    | ⟨1, _⟩ => rfl
    | ⟨2, _⟩ => rfl
  | ⟨1, _⟩ =>
    show min (idx (GatherDims.siIdx gather_S64x2_S4096x64x2_S4096x64_n_01_n_n_01_2_11 (ix2 b s) _)).toInt.toNat 1 = min (idx (ix3 b s 1)).toInt.toNat 1
    congr 4
    funext c
    refine Fin.ext ?_
    match c with
    | ⟨0, _⟩ => rfl
    | ⟨1, _⟩ => rfl
    | ⟨2, _⟩ => rfl

/-- Entries taken at words and states. -/
theorem gather_word {α : Type} (x : S4096x64.Idx → α) (idx : IVec S4096x2 32) (b : Fin 4096) :
    Host.gather gather_S4096x64_S4096x2_S4096_n_01_n_n_01_1_11 x idx (ix1 b)
      = x (ix2 ⟨min (idx (ix2 b 0)).toInt.toNat 4095, by omega⟩ ⟨min (idx (ix2 b 1)).toInt.toNat 63, by omega⟩) := by
  unfold Host.gather
  refine congrArg x ?_
  funext a
  refine Fin.ext ?_
  match a with
  | ⟨0, _⟩ =>
    show min (idx (GatherDims.siIdx gather_S4096x64_S4096x2_S4096_n_01_n_n_01_1_11 (ix1 b) _)).toInt.toNat 4095 = min (idx (ix2 b 0)).toInt.toNat 4095
    congr 4
    funext c
    refine Fin.ext ?_
    match c with
    | ⟨0, _⟩ => rfl
    | ⟨1, _⟩ => rfl
  | ⟨1, _⟩ =>
    show min (idx (GatherDims.siIdx gather_S4096x64_S4096x2_S4096_n_01_n_n_01_1_11 (ix1 b) _)).toInt.toNat 63 = min (idx (ix2 b 1)).toInt.toNat 63
    congr 4
    funext c
    refine Fin.ext ?_
    match c with
    | ⟨0, _⟩ => rfl
    | ⟨1, _⟩ => rfl

/-- The same at known start indices. -/
theorem gather_table_at {α : Type} (x : S64x2.Idx → α) (idx : IVec S4096x64x2 32) (b : Fin 4096) (s : Fin 64) (i : Fin 64) (e : Fin 2)
    (hi : idx (ix3 b s 0) = BitVec.ofNat 32 i.val) (he : idx (ix3 b s 1) = BitVec.ofNat 32 e.val) :
    Host.gather gather_S64x2_S4096x64x2_S4096x64_n_01_n_n_01_2_11 x idx (ix2 b s) = x (ix2 i e) := by
  rw [gather_table]
  have h1 : min (idx (ix3 b s 0)).toInt.toNat 63 = i.val := by rw [hi, toInt_small _ (by omega)]; omega
  have h2 : min (idx (ix3 b s 1)).toInt.toNat 1 = e.val := by rw [he, toInt_small _ (by omega)]; omega
  simp only [h1, h2]

theorem gather_word_at {α : Type} (x : S4096x64.Idx → α) (idx : IVec S4096x2 32) (b : Fin 4096) (i : Fin 4096) (s : Fin 64)
    (hi : idx (ix2 b 0) = BitVec.ofNat 32 i.val) (hs : idx (ix2 b 1) = BitVec.ofNat 32 s.val) :
    Host.gather gather_S4096x64_S4096x2_S4096_n_01_n_n_01_1_11 x idx (ix1 b) = x (ix2 i s) := by
  rw [gather_word]
  have h1 : min (idx (ix2 b 0)).toInt.toNat 4095 = i.val := by rw [hi, toInt_small _ (by omega)]; omega
  have h2 : min (idx (ix2 b 1)).toInt.toNat 63 = s.val := by rw [hs, toInt_small _ (by omega)]; omega
  simp only [h1, h2]

theorem gather_metrics_at {α : Type} (x : S4096x64.Idx → α) (idx : IVec S64x2x1 32) (b : Fin 4096) (s : Fin 64) (e : Fin 2) (i : Fin 64)
    (hi : idx (ix3 s e 0) = BitVec.ofNat 32 i.val) :
    Host.gather gather_S4096x64_S64x2x1_S4096x64x2_0_1_n_n_1_2_40961 x idx (ix3 b s e) = x (ix2 b i) := by
  rw [gather_metrics]
  have h1 : min (idx (ix3 s e 0)).toInt.toNat 63 = i.val := by rw [hi, toInt_small _ (by omega)]; omega
  simp only [h1]

/-- The two entries that reduce into one, in order. -/
theorem fiber (h : S4096x64x2.ReducesTo [2] S4096x64) (b : Fin 4096) (s : Fin 64) :
    ((List.finRange S4096x64x2.numel).filter fun n => h.drop (S4096x64x2.rowMajor.symm n) = ix2 b s)
      = [S4096x64x2.rowMajor (ix3 b s 0), S4096x64x2.rowMajor (ix3 b s 1)] := by
  have hlt : S4096x64x2.rowMajor (ix3 b s 0) < S4096x64x2.rowMajor (ix3 b s 1) := by
    rw [Fin.lt_def, Shape.rowMajor_val_three, Shape.rowMajor_val_three]
    exact Nat.lt_succ_self _
  refine List.Perm.eq_of_pairwise (le := (· < ·)) (fun a c _ _ h1 h2 => absurd h1 (not_lt_of_gt h2)) ((List.pairwise_lt_finRange _).filter _) (by simpa using hlt) ?_
  refine (List.perm_ext_iff_of_nodup ((List.nodup_finRange _).filter _) (by simpa using hlt.ne)).mpr fun n => ?_
  obtain ⟨i, rfl⟩ := S4096x64x2.rowMajor.surjective n
  simp only [List.mem_filter, List.mem_finRange, true_and, Equiv.symm_apply_apply, decide_eq_true_eq, List.mem_cons, List.not_mem_nil, or_false, EmbeddingLike.apply_eq_iff_eq]
  constructor
  · intro hd
    have h0 : i 0 = b := Fin.ext (congrArg Fin.val (congrFun hd 0))
    have h1 : i 1 = s := Fin.ext (congrArg Fin.val (congrFun hd 1))
    obtain ⟨e, he⟩ : ∃ e : Fin 2, i = ix3 b s e := by
      refine ⟨i 2, ?_⟩
      funext a
      match a with
      | ⟨0, _⟩ => exact h0
      | ⟨1, _⟩ => exact h1
      | ⟨2, _⟩ => rfl
    subst he
    match e with
    | 0 => exact Or.inl rfl
    | 1 => exact Or.inr rfl
  · rintro (rfl | rfl)
    · funext a
      match a with
      | ⟨0, _⟩ => rfl
      | ⟨1, _⟩ => rfl
    · funext a
      match a with
      | ⟨0, _⟩ => rfl
      | ⟨1, _⟩ => rfl

theorem bottom : Ideal.ofBits .f32 0xFF800000#32 = ⊥ := by
  simp [Ideal.ofBits, Ideal.ieee, -EReal.coe_mul]

/-- The arg-max takes the second entry when it is greater. -/
theorem which_apply (x : C Ideal S4096x64x2 .f32) (b : Fin 4096) (s : Fin 64) :
    Steps.which x (ix2 b s) = if x (ix3 b s 0) < x (ix3 b s 1) then 1#32 else 0#32 := by
  unfold Steps.which
  rw [Ideal.argReduce_eq_reduce2, Host.reduce2_eq_foldl_fiber, Host.argReduceFiber, fiber]
  simp only [List.map_cons, List.map_nil, Equiv.symm_apply_apply, List.foldl_cons, List.foldl_nil]
  generalize x (ix3 b s 0) = p
  generalize x (ix3 b s 1) = q
  show (reducer_argmax_f32_i32 (reducer_argmax_f32_i32 (Ideal.ofBits .f32 0xFF800000#32, 0#32) (p, 0#32)) (q, 1#32)).2 = _
  rw [bottom]
  have red : ∀ (u v : EReal) (i j : BitVec 32), reducer_argmax_f32_i32 (F := Ideal) (u, i) (v, j)
      = (if v < u then u else v, if v < u ∨ (u = v ∧ i.slt j = true) then i else j) := by
    intro u v i j
    show (Scalar.select (IntOp.ori (Ideal.cmp .ogt u v) (Ideal.cmp .une u u)) u v,
      Scalar.select (IntOp.ori (IntOp.ori (Ideal.cmp .ogt u v) (Ideal.cmp .une u u)) (IntOp.andi (Ideal.cmp .oeq u v) (IntOp.cmpi .slt i j))) i j) = _
    by_cases h1 : v < u <;> by_cases h2 : u = v <;> by_cases h3 : i.slt j = true <;> simp [Ideal.cmp, IntOp.cmpi, IntOp.ori, IntOp.andi, Scalar.select, h1, h2, h3]
  rw [red, red]
  simp only [not_lt_bot, if_false, false_or, show (0#32).slt 0#32 = false from by decide, show (0#32).slt 1#32 = true from by decide, Bool.false_eq_true, and_false, and_true]
  by_cases h : p < q
  · rw [if_pos h, if_neg (by rintro (h' | h'); exacts [absurd h' (not_lt_of_gt h), h.ne h'])]
  · rw [if_neg h, if_pos (by rcases lt_or_eq_of_le (not_lt.mp h) with h' | h'; exacts [Or.inl h', Or.inr h'.symm])]

end Cert.ReferenceIdeal.Reads
-- ==== Proof.RI.Tables.lean ====
/-
  The reference's two constant tables: every state's two predecessors, and the signs of the code's outputs.
-/
module

public import proofs.«01_k».proof.Proof.RI.Steps
public import proofs.«01_k».proof.Proof.Spec
public import Idealize.ShloMosaic.Lib.Pipeline.ValueKit

@[expose] public section

set_option maxRecDepth 16384

noncomputable section

namespace Cert.ReferenceIdeal.Reads

open Cert.ReferenceIdeal Cert.ReferenceIdeal.Ops Cert.ReferenceIdeal.Facts₀ Cert.ReferenceIdeal.Facts
open Idealize.ShloMosaic Idealize.ShloMosaic.StableHlo Idealize.ShloMosaic.Tactic

/-- Edge `e` into state `s` comes from `s / 2 + 32 * e`. -/
theorem lit0_apply : ∀ (s : Fin 64) (e : Fin 2), lit0 (S64x2.rowMajor (ix2 s e)) = BitVec.ofNat 32 (s.val / 2 + 32 * e.val) := by
  decide +kernel

/-- The outputs' signs, opposite on the two edges. -/
theorem lit1_apply : ∀ (s : Fin 64) (e r : Fin 2), lit1 (S64x2x2.rowMajor (ix3 s e r))
    = if (Viterbi.neg s r ^^ decide (e = 1)) then 0xBF800000#32 else 0x3F800000#32 := by
  decide +kernel

end Cert.ReferenceIdeal.Reads
-- ==== Proof.RI.Reads.lean ====
/-
  The operations of the reference's loops, read at an index.
-/
module

public import proofs.«01_k».proof.Proof.RI.Gathers
public import proofs.«01_k».proof.Proof.RI.Tables

@[expose] public section

set_option maxRecDepth 16384

noncomputable section

namespace Cert.ReferenceIdeal.Reads

open Cert.ReferenceIdeal Cert.ReferenceIdeal.Ops Cert.ReferenceIdeal.Facts₀ Cert.ReferenceIdeal.Facts
open Idealize.ShloMosaic Idealize.ShloMosaic.StableHlo Idealize.ShloMosaic.Tactic

/-! ### The first loop's operations read at an index -/

theorem spread_apply (x : C Ideal S4096x256 .f32) (t : Fin 384) (b : Fin 4096) (r : Fin 2) :
    Steps.spread x (ix3 t b r) = Viterbi.received (fun b n => x (ix2 b n)) b t.val r := by
  unfold Steps.spread
  pointwise
  unfold Viterbi.received
  have h1 : FloatOps.sitofp (F := Ideal) .f32 20#32 = ((20 : ℝ) : EReal) := by
    show (((20#32 : BitVec 32).toInt : ℝ) : EReal) = _
    rw [show (20#32 : BitVec 32).toInt = 20 from by decide]
    norm_num
  have h2 : FloatOps.sitofp (F := Ideal) .f32 4294967276#32 = ((-20 : ℝ) : EReal) := by
    show (((4294967276#32 : BitVec 32).toInt : ℝ) : EReal) = _
    rw [show (4294967276#32 : BitVec 32).toInt = -20 from by decide]
    norm_num
  have h3 : (t.val * 2 + r.val) % 256 = 2 * (t.val % 128) + r.val := by omega
  rw [h1, h2]
  simp only [h3]

theorem pairs_apply (l : C Ideal S384x4096x2 .f32) (k : Fin 384) (b : Fin 4096) (r : Fin 2) :
    Steps.pairs l (constantI S_ 32 (BitVec.ofNat 32 k.val)) (ix2 b r) = l (ix3 k b r) := by
  unfold Steps.pairs
  pointwise
  simp only [fun h => Host.clampedStart_of_le (s := S384x4096x2) (t := S1x4096x2) h (Steps.start (F := Ideal) ![constantI S_ 32 (BitVec.ofNat 32 k.val), Steps.zero (F := Ideal), Steps.zero (F := Ideal)]) 0 k.val
      (toInt_small _ (by omega)) (Nat.succ_le_of_lt k.isLt),
    fun h => Host.clampedStart_of_le (s := S384x4096x2) (t := S1x4096x2) h (Steps.start (F := Ideal) ![constantI S_ 32 (BitVec.ofNat 32 k.val), Steps.zero (F := Ideal), Steps.zero (F := Ideal)]) 1 0
      rfl (Nat.le_refl _),
    fun h => Host.clampedStart_of_le (s := S384x4096x2) (t := S1x4096x2) h (Steps.start (F := Ideal) ![constantI S_ 32 (BitVec.ofNat 32 k.val), Steps.zero (F := Ideal), Steps.zero (F := Ideal)]) 2 0
      rfl (Nat.le_refl _), Nat.zero_add]

theorem table_apply (s : Fin 64) (e : Fin 2) :
    Steps.table (F := Ideal) (fun i => lit0 (S64x2.rowMajor i)) (ix3 s e 0) = BitVec.ofNat 32 (s.val / 2 + 32 * e.val) := by
  unfold Steps.table
  pointwise
  rw [lit0_apply]
  revert s e
  decide +kernel

theorem states_apply (b : Fin 4096) (s : Fin 64) : Steps.states (F := Ideal) (iotaInDim S64 32 0) (ix3 b s 0) = BitVec.ofNat 32 s.val := by
  unfold Steps.states
  pointwise
  revert s
  decide +kernel

theorem edges_apply (w : C Ideal S4096x64 .i32) (b : Fin 4096) (s : Fin 64) (e : Fin 2) (h : w (ix2 b s) = BitVec.ofNat 32 e.val) :
    Steps.edges (F := Ideal) w (ix3 b s 0) = BitVec.ofNat 32 e.val := by
  unfold Steps.edges
  pointwise
  rw [h]
  clear h
  revert e
  decide +kernel

theorem joined_0 (x y : C Ideal S4096x64x1 .i32) (b : Fin 4096) (s : Fin 64) : Steps.joined (F := Ideal) x y (ix3 b s 0) = x (ix3 b s 0) := by
  unfold Steps.joined
  pointwise

theorem joined_1 (x y : C Ideal S4096x64x1 .i32) (b : Fin 4096) (s : Fin 64) : Steps.joined (F := Ideal) x y (ix3 b s 1) = y (ix3 b s 0) := by
  unfold Steps.joined
  pointwise

theorem cands_apply (l : C Ideal S384x4096x2 .f32) (sym : C Ideal S64x2x2 .f32) (k : Fin 384) (M : C Ideal S4096x64 .f32)
    (b : Fin 4096) (s : Fin 64) (e : Fin 2) :
    Steps.cands l sym (fun i => lit0 (S64x2.rowMajor i)) (constantI S_ 32 (BitVec.ofNat 32 k.val)) M (ix3 b s e)
      = M (ix2 b ⟨s.val / 2 + 32 * e.val, by omega⟩) + (l (ix3 k b 0) * sym (ix3 s e 0) + l (ix3 k b 1) * sym (ix3 s e 1)) := by
  unfold Steps.cands
  pointwise
  rw [gather_metrics_at _ _ b s e ⟨s.val / 2 + 32 * e.val, by omega⟩ (table_apply s e), Fin.sum_univ_two, pairs_apply, pairs_apply]

theorem lowered_apply (x : C Ideal S4096x64x2 .f32) (b : Fin 4096) (s : Fin 64) :
    Steps.lowered x (ix2 b s) = max (x (ix3 b s 0)) (x (ix3 b s 1)) - Finset.univ.sup fun s : Fin 64 => max (x (ix3 b s 0)) (x (ix3 b s 1)) := by
  unfold Steps.lowered Steps.better
  pointwise
  rw [bottom]
  have h : ∀ f : Fin 2 → EReal, Finset.fold max ⊥ f Finset.univ = max (f 0) (f 1) := fun f => by
    show Finset.univ.sup f = _
    rw [Fin.univ_succ]
    simp
  simp only [h]
  rfl

theorem chosen_apply (w : C Ideal S4096x64 .i32) (b : Fin 4096) (s : Fin 64) (e : Fin 2) (h : w (ix2 b s) = BitVec.ofNat 32 e.val) :
    Steps.chosen (F := Ideal) (fun i => lit0 (S64x2.rowMajor i)) (iotaInDim S64 32 0) w (ix2 b s) = ((s.val / 2 + 32 * e.val : ℕ) : EReal) := by
  unfold Steps.chosen
  pointwise
  rw [gather_table_at _ _ b s s e ((joined_0 _ _ b s).trans (states_apply b s)) ((joined_1 _ _ b s).trans (edges_apply w b s e h)), lit0_apply]
  show (((BitVec.ofNat 32 (s.val / 2 + 32 * e.val)).toInt : ℝ) : EReal) = _
  rw [toInt_small _ (by omega)]
  norm_cast

theorem put_apply (x : C Ideal S384x4096x64 .f32) (u : C Ideal S4096x64 .f32) (k : Fin 384) (t : Fin 384) (b : Fin 4096) (s : Fin 64) :
    Steps.put x u (constantI S_ 32 (BitVec.ofNat 32 k.val)) (ix3 t b s) = if t = k then u (ix2 b s) else x (ix3 t b s) := by
  unfold Steps.put
  pointwise
  simp only [fun h => Host.clampedStart_of_le (s := S384x4096x64) (t := S1x4096x64) h (Steps.start (F := Ideal) ![constantI S_ 32 (BitVec.ofNat 32 k.val), Steps.zero (F := Ideal), Steps.zero (F := Ideal)]) 0 k.val
      (toInt_small _ (by omega)) (Nat.succ_le_of_lt k.isLt),
    fun h => Host.clampedStart_of_le (s := S384x4096x64) (t := S1x4096x64) h (Steps.start (F := Ideal) ![constantI S_ 32 (BitVec.ofNat 32 k.val), Steps.zero (F := Ideal), Steps.zero (F := Ideal)]) 1 0
      rfl (Nat.le_refl _),
    fun h => Host.clampedStart_of_le (s := S384x4096x64) (t := S1x4096x64) h (Steps.start (F := Ideal) ![constantI S_ 32 (BitVec.ofNat 32 k.val), Steps.zero (F := Ideal), Steps.zero (F := Ideal)]) 2 0
      rfl (Nat.le_refl _), Nat.sub_zero]
  by_cases h : t = k
  · subst h
    rw [if_pos rfl, dif_pos ⟨⟨Nat.le_refl _, Nat.lt_succ_self _⟩, Nat.zero_le _, Nat.zero_le _⟩]
  · rw [if_neg h, dif_neg (fun h' => h (Fin.ext (by omega)))]

/-! ### The second loop's -/

theorem place_eq (k : Fin 384) : Steps.place (F := Ideal) (constantI S_ 32 (BitVec.ofNat 32 k.val)) = constantI S_ 32 (BitVec.ofNat 32 (383 - k.val)) := by
  funext i
  show (384#32 - BitVec.ofNat 32 k.val) - 1#32 = BitVec.ofNat 32 (383 - k.val)
  revert k
  decide +kernel

theorem taken_apply (x : C Ideal S384x4096x64 .f32) (k : Fin 384) (b : Fin 4096) (s : Fin 64) :
    Steps.taken x (constantI S_ 32 (BitVec.ofNat 32 k.val)) (ix2 b s) = x (ix3 ⟨383 - k.val, by omega⟩ b s) := by
  unfold Steps.taken
  rw [place_eq]
  pointwise
  simp only [fun h => Host.clampedStart_of_le (s := S384x4096x64) (t := S1x4096x64) h (Steps.start (F := Ideal) ![constantI S_ 32 (BitVec.ofNat 32 (383 - k.val)), Steps.zero (F := Ideal), Steps.zero (F := Ideal)]) 0 (383 - k.val)
      (toInt_small _ (by omega)) (show 383 - k.val + 1 ≤ 384 by omega),
    fun h => Host.clampedStart_of_le (s := S384x4096x64) (t := S1x4096x64) h (Steps.start (F := Ideal) ![constantI S_ 32 (BitVec.ofNat 32 (383 - k.val)), Steps.zero (F := Ideal), Steps.zero (F := Ideal)]) 1 0
      rfl (Nat.le_refl _),
    fun h => Host.clampedStart_of_le (s := S384x4096x64) (t := S1x4096x64) h (Steps.start (F := Ideal) ![constantI S_ 32 (BitVec.ofNat 32 (383 - k.val)), Steps.zero (F := Ideal), Steps.zero (F := Ideal)]) 2 0
      rfl (Nat.le_refl _), Nat.zero_add]

theorem not_negative (n : ℕ) (h : n < 2 ^ 31) (u : BitVec 32) :
    Scalar.select (IntOp.cmpi CmpIPredicate.slt (BitVec.ofNat 32 n) 0#32) u (BitVec.ofNat 32 n) = BitVec.ofNat 32 n := by
  have e : (BitVec.ofNat 32 n).slt 0#32 = false := by
    rw [BitVec.slt, toInt_small n h]
    simp
  simp [IntOp.cmpi, Scalar.select, e]

theorem words_apply (b : Fin 4096) : Steps.words (F := Ideal) (iotaInDim S4096 32 0) (ix2 b 0) = BitVec.ofNat 32 b.val := by
  unfold Steps.words
  pointwise
  exact not_negative _ (by omega) _

theorem places_apply (v : C Ideal S4096 .i32) (b : Fin 4096) (s : Fin 64) (h : v (ix1 b) = BitVec.ofNat 32 s.val) :
    Steps.places (F := Ideal) v (ix2 b 0) = BitVec.ofNat 32 s.val := by
  unfold Steps.places
  pointwise
  rw [h]
  exact not_negative _ (by omega) _

theorem beside_0 (x y : C Ideal S4096x1 .i32) (b : Fin 4096) : Steps.beside (F := Ideal) x y (ix2 b 0) = x (ix2 b 0) := by
  unfold Steps.beside
  pointwise

theorem beside_1 (x y : C Ideal S4096x1 .i32) (b : Fin 4096) : Steps.beside (F := Ideal) x y (ix2 b 1) = y (ix2 b 0) := by
  unfold Steps.beside
  pointwise

theorem earlier_apply (x : C Ideal S384x4096x64 .f32) (k : Fin 384) (v : C Ideal S4096 .i32) (b : Fin 4096) (s : Fin 64) (h : v (ix1 b) = BitVec.ofNat 32 s.val) :
    Steps.earlier x (constantI S_ 32 (BitVec.ofNat 32 k.val)) (iotaInDim S4096 32 0) v (ix1 b) = Ideal.fptosi 32 (x (ix3 ⟨383 - k.val, by omega⟩ b s)) := by
  unfold Steps.earlier
  pointwise
  rw [gather_word_at _ _ b b s ((beside_0 _ _ b).trans (words_apply b)) ((beside_1 _ _ b).trans (places_apply v b s h)), taken_apply]
  rfl

theorem parity_apply (v : C Ideal S4096 .i32) (b : Fin 4096) (s : Fin 64) (h : v (ix1 b) = BitVec.ofNat 32 s.val) :
    Steps.parity (F := Ideal) v (ix1 b) = BitVec.ofNat 32 ((s.val + 1) % 2) := by
  unfold Steps.parity Steps.rest Steps.two
  pointwise
  rw [h]
  clear h
  revert s
  decide +kernel

theorem write_apply (x : C Ideal S384x4096 .f32) (v : C Ideal S4096 .i32) (k : Fin 384) (t : Fin 384) (b : Fin 4096) (s : Fin 64) (h : v (ix1 b) = BitVec.ofNat 32 s.val) :
    Steps.write x v (constantI S_ 32 (BitVec.ofNat 32 k.val)) (ix2 t b) = if t.val = 383 - k.val then Viterbi.bit s else x (ix2 t b) := by
  unfold Steps.write
  rw [place_eq]
  pointwise
  simp only [fun h => Host.clampedStart_of_le (s := S384x4096) (t := S1x4096) h (Steps.start (F := Ideal) ![constantI S_ 32 (BitVec.ofNat 32 (383 - k.val)), Steps.zero (F := Ideal)]) 0 (383 - k.val)
      (toInt_small _ (by omega)) (show 383 - k.val + 1 ≤ 384 by omega),
    fun h => Host.clampedStart_of_le (s := S384x4096) (t := S1x4096) h (Steps.start (F := Ideal) ![constantI S_ 32 (BitVec.ofNat 32 (383 - k.val)), Steps.zero (F := Ideal)]) 1 0
      rfl (Nat.le_refl _), Nat.sub_zero]
  by_cases ht : t.val = 383 - k.val
  · rw [if_pos ht, dif_pos ⟨⟨ht.ge, by omega⟩, Nat.zero_le _⟩, parity_apply v b s h]
    show (((BitVec.ofNat 32 ((s.val + 1) % 2)).toInt : ℝ) : EReal) = _
    rw [toInt_small _ (by omega)]
    unfold Viterbi.bit
    norm_cast
  · rw [if_neg ht, dif_neg (fun h' => ht (by omega))]

end Cert.ReferenceIdeal.Reads
-- ==== Proof.RI.Value.lean ====
/-
  The reference's result: at word `b` and column `n`, the bit decoded at step `128 + n` of the word's received values.
-/
module

public import proofs.«01_k».proof.Proof.RI.Reads
public import proofs.«01_k».proof.Proof.PI.Bits

@[expose] public section

set_option maxRecDepth 16384

noncomputable section

namespace Cert.ReferenceIdeal.Value

open Cert.ReferenceIdeal Cert.ReferenceIdeal.Ops Cert.ReferenceIdeal.Run Cert.ReferenceIdeal.Steps Cert.ReferenceIdeal.Reads
open Idealize.ShloMosaic Idealize.ShloMosaic.TcCoe Idealize.ShloMosaic.StableHlo

/-! ### One step -/

/-- A received value is a real number. -/
theorem received_real (x : Fin 4096 → Fin 256 → EReal) (b : Fin 4096) (t : ℕ) (r : Fin 2) : ∃ u : ℝ, Viterbi.received x b t r = (u : EReal) := by
  unfold Viterbi.received
  generalize x b _ = v
  induction v using EReal.rec with
  | bot => exact ⟨min 20 (-20), by rw [max_eq_left bot_le]; exact (EReal.coe_strictMono.monotone.map_min).symm⟩
  | top => exact ⟨20, by rw [max_eq_right le_top, min_eq_left le_top]⟩
  | coe v => exact ⟨min 20 (max (-20) v), by rw [EReal.coe_strictMono.monotone.map_min, EReal.coe_strictMono.monotone.map_max]⟩

/-- The signs, opposite on the two edges. -/
theorem sign_apply (s : Fin 64) (e r : Fin 2) :
    FloatOps.ofBits (F := Ideal) .f32 (lit1 (S64x2x2.rowMajor (ix3 s e r))) = if e = 1 then -Viterbi.sign s r else Viterbi.sign s r := by
  show Ideal.ofBits .f32 (lit1 _) = _
  rw [lit1_apply]
  have h1 : Ideal.ofBits .f32 0x3F800000#32 = 1 := Ideal.ofBits_one_f32
  have h2 : Ideal.ofBits .f32 0xBF800000#32 = -1 := by simp [Ideal.ofBits, Ideal.ieee, -EReal.coe_mul]; norm_num
  unfold Viterbi.sign
  by_cases he : e = 1 <;> by_cases hn : Viterbi.neg s r = true <;> simp [he, hn, h1, h2]

section Step

variable (l : C Ideal S384x4096x2 .f32) (k : Fin 384) (M : C Ideal S4096x64 .f32) (b : Fin 4096) (L : Fin 2 → EReal) (P : Fin 64 → EReal)
  (hl : ∀ r, l (ix3 k b r) = L r) (hM : ∀ s, M (ix2 b s) = P s)

/-- The step's path values. -/
abbrev now : C Ideal S4096x64x2 .f32 :=
  cands l (fun i => FloatOps.ofBits (F := Ideal) .f32 (lit1 (S64x2x2.rowMajor i))) (fun i => lit0 (S64x2.rowMajor i)) (constantI S_ 32 (BitVec.ofNat 32 k.val)) M

include hl hM

theorem now_0 (s : Fin 64) : now l k M (ix3 b s 0) = Viterbi.cand0 L P s := by
  unfold now
  rw [cands_apply, sign_apply, sign_apply, if_neg (by decide), if_neg (by decide), hl, hl, hM]
  unfold Viterbi.cand0 Viterbi.branch
  rw [mul_comm (L 0), mul_comm (L 1)]
  rfl

theorem now_1 (hL : ∀ r, ∃ u : ℝ, L r = (u : EReal)) (s : Fin 64) : now l k M (ix3 b s 1) = Viterbi.cand1 L P s := by
  unfold now
  rw [cands_apply, sign_apply, sign_apply, if_pos rfl, if_pos rfl, hl, hl, hM]
  unfold Viterbi.cand1 Viterbi.branch
  have hs : ∀ r, ∃ u : ℝ, Viterbi.sign s r = (u : EReal) := fun r => by
    unfold Viterbi.sign
    split
    · exact ⟨-1, by norm_num⟩
    · exact ⟨1, by norm_num⟩
  obtain ⟨u0, h0⟩ := hL 0
  obtain ⟨u1, h1⟩ := hL 1
  obtain ⟨v0, g0⟩ := hs 0
  obtain ⟨v1, g1⟩ := hs 1
  rw [h0, h1, g0, g1, sub_eq_add_neg]
  refine congrArg₂ (· + ·) rfl ?_
  rw [← EReal.coe_neg, ← EReal.coe_neg, ← EReal.coe_mul, ← EReal.coe_mul, ← EReal.coe_mul, ← EReal.coe_mul, ← EReal.coe_add, ← EReal.coe_add, ← EReal.coe_neg]
  congr 1
  ring

variable (hL : ∀ r, ∃ u : ℝ, L r = (u : EReal))

include hL

theorem lowered_now (s : Fin 64) : lowered (now l k M) (ix2 b s) = Viterbi.next L P s := by
  rw [lowered_apply]
  simp only [now_0 l k M b L P hl hM, now_1 l k M b L P hl hM hL]
  rfl

theorem chosen_now (s : Fin 64) :
    chosen (F := Ideal) (fun i => lit0 (S64x2.rowMajor i)) (iotaInDim S64 32 0) (which (now l k M)) (ix2 b s) = (((Viterbi.back (Viterbi.dec L P) s).val : ℕ) : EReal) := by
  have hw := which_apply (now l k M) b s
  rw [now_0 l k M b L P hl hM, now_1 l k M b L P hl hM hL] at hw
  unfold Viterbi.back Viterbi.dec
  by_cases h : Viterbi.cand0 L P s < Viterbi.cand1 L P s
  · rw [if_pos h] at hw
    rw [chosen_apply _ b s 1 hw, if_pos (decide_eq_true h)]
    rfl
  · rw [if_neg h] at hw
    rw [chosen_apply _ b s 0 hw, if_neg (by simpa using h)]
    rfl

end Step

/-! ### The loops -/

variable (m : (ℓ : Loc nD τ sig) → Buf (Elt Ideal) ℓ) (c : Dev nD)

/-- The argument. -/
def x (b : Fin 4096) (n : Fin 256) : EReal := (m ((c.tc : Thread nD τ).loc main_arg0) : FVec Ideal S4096x256 .f32) (ix2 b n)

/-- The received values. -/
abbrev R (b : Fin 4096) : ℕ → Fin 2 → EReal := Viterbi.received (x m c) b

/-- What the first loop leaves alone. -/
structure Fixed (X : Valuation τ sig (Elt Ideal)) : Prop where
  values : X (Proc.devRef .tc main_v10_0) = spread (m ((c.tc : Thread nD τ).loc main_arg0))
  signs : X (Proc.devRef .tc main_v10_1) = fun i => FloatOps.ofBits (F := Ideal) .f32 (lit1 (S64x2x2.rowMajor i))
  table : X (Proc.devRef .tc main_v10_2) = fun i => lit0 (S64x2.rowMajor i)
  states : X (Proc.devRef .tc main_v10_3) = iotaInDim S64 32 0

section Kept

variable (W : Dev nD → Valuation τ sig (Elt Ideal))

theorem keptA_0 : ∀ k, atA W k c (Proc.devRef .tc main_v10_0) = W c (Proc.devRef .tc main_v10_0)
  | 0 => rfl
  | k + 1 => (stepA_0 (atA W k c)).trans (keptA_0 k)
theorem keptA_1 : ∀ k, atA W k c (Proc.devRef .tc main_v10_1) = W c (Proc.devRef .tc main_v10_1)
  | 0 => rfl
  | k + 1 => (stepA_1 (atA W k c)).trans (keptA_1 k)
theorem keptA_2 : ∀ k, atA W k c (Proc.devRef .tc main_v10_2) = W c (Proc.devRef .tc main_v10_2)
  | 0 => rfl
  | k + 1 => (stepA_2 (atA W k c)).trans (keptA_2 k)
theorem keptA_3 : ∀ k, atA W k c (Proc.devRef .tc main_v10_3) = W c (Proc.devRef .tc main_v10_3)
  | 0 => rfl
  | k + 1 => (stepA_3 (atA W k c)).trans (keptA_3 k)
theorem keptB_0 : ∀ k, atB W k c (Proc.devRef .tc main_v14_0) = W c (Proc.devRef .tc main_v14_0)
  | 0 => rfl
  | k + 1 => (stepB_0 (atB W k c)).trans (keptB_0 k)
theorem keptB_1 : ∀ k, atB W k c (Proc.devRef .tc main_v14_1) = W c (Proc.devRef .tc main_v14_1)
  | 0 => rfl
  | k + 1 => (stepB_1 (atB W k c)).trans (keptB_1 k)

end Kept

theorem fixed (k : ℕ) : Fixed m c (atA (entryA m) k c) :=
  ⟨(keptA_0 c (entryA m) k).trans (pre_0 _), (keptA_1 c (entryA m) k).trans (pre_1 _), (keptA_2 c (entryA m) k).trans (pre_2 _), (keptA_3 c (entryA m) k).trans (pre_3 _)⟩

theorem found_eq (k : Fin 384) :
    found (atA (entryA m) k.val c) = now (spread (m ((c.tc : Thread nD τ).loc main_arg0))) k (atA (entryA m) k.val c (Proc.devRef .tc main_v10_5)) := by
  unfold found now
  rw [(fixed m c k.val).values, (fixed m c k.val).signs, (fixed m c k.val).table, ctrA (entryA m) c (entryA_ctr m c) k.val]

theorem values_apply (k : Fin 384) (b : Fin 4096) (r : Fin 2) :
    spread (m ((c.tc : Thread nD τ).loc main_arg0)) (ix3 k b r) = R m c b k.val r := spread_apply _ k b r

/-- The path values before trip `k`. -/
theorem metrics (b : Fin 4096) : ∀ (k : ℕ) (_ : k ≤ 384) (s : Fin 64),
    (atA (entryA m) k c (Proc.devRef .tc main_v10_5) : FVec Ideal S4096x64 .f32) (ix2 b s) = Viterbi.paths (R m c b) k s
  | 0, _, s => by
    show (after preOps (launchContents m c) (Proc.devRef .tc main_v10_5) : FVec Ideal S4096x64 .f32) (ix2 b s) = (0 : EReal)
    rw [pre_5]
    exact Ideal.ofBits_zero_f32
  | k + 1, hk, s => by
    show (after body0Ops (after cond0Ops (atA (entryA m) k c)) (Proc.devRef .tc main_v10_5) : FVec Ideal S4096x64 .f32) (ix2 b s) = _
    rw [stepA_5, found_eq m c ⟨k, by omega⟩]
    exact lowered_now _ ⟨k, by omega⟩ _ b (R m c b k) _ (values_apply m c _ b) (metrics b k (by omega)) (received_real _ b k) s

/-- Before trip `k` the steps before it hold the states their better paths come from. -/
theorem origins (b : Fin 4096) : ∀ (k : ℕ) (_ : k ≤ 384) (t : Fin 384) (_ : t.val < k) (s : Fin 64),
    (atA (entryA m) k c (Proc.devRef .tc main_v10_7) : FVec Ideal S384x4096x64 .f32) (ix3 t b s)
      = (((Viterbi.back (Viterbi.decs (R m c b) t.val) s).val : ℕ) : EReal)
  | 0, _, _, h, _ => absurd h (Nat.not_lt_zero _)
  | k + 1, hk, t, ht, s => by
    show (after body0Ops (after cond0Ops (atA (entryA m) k c)) (Proc.devRef .tc main_v10_7) : FVec Ideal S384x4096x64 .f32) (ix3 t b s) = _
    rw [stepA_7, found_eq m c ⟨k, by omega⟩, (fixed m c k).table, (fixed m c k).states, ctrA (entryA m) c (entryA_ctr m c) k]
    refine (put_apply _ _ ⟨k, by omega⟩ t b s).trans ?_
    by_cases h : t.val = k
    · have h : t = ⟨k, by omega⟩ := Fin.ext h
      rw [if_pos h, chosen_now _ ⟨k, by omega⟩ _ b (R m c b k) _ (values_apply m c _ b) (metrics m c b k (by omega)) (received_real _ b k) s, h]
      rfl
    · rw [if_neg (fun h' => h (congrArg Fin.val h'))]
      exact origins b k (by omega) t (by omega) s

/-- The decisions. -/
abbrev D (b : Fin 4096) : ℕ → Fin 64 → Bool := Viterbi.decs (R m c b)

theorem back_0 (k : ℕ) : atB (entryB m) k c (Proc.devRef .tc main_v14_0) = atA (entryA m) 384 c (Proc.devRef .tc main_v10_7) :=
  (keptB_0 c (entryB m) k).trans (mid_0 _)

theorem back_1 (k : ℕ) : atB (entryB m) k c (Proc.devRef .tc main_v14_1) = iotaInDim S4096 32 0 :=
  (keptB_1 c (entryB m) k).trans (mid_1 _)

/-- The states before trip `k` of the walk back. -/
theorem walk (b : Fin 4096) : ∀ (k : ℕ) (_ : k ≤ 384),
    (atB (entryB m) k c (Proc.devRef .tc main_v14_3) : IVec S4096 32) (ix1 b) = BitVec.ofNat 32 (Viterbi.state (D m c b) k).val
  | 0, _ => by
    show (after midOps (after cond0Ops (atA (entryA m) 384 c)) (Proc.devRef .tc main_v14_3) : IVec S4096 32) (ix1 b) = 0#32
    rw [mid_3]
    rfl
  | k + 1, hk => by
    show (after body1Ops (after cond1Ops (atB (entryB m) k c)) (Proc.devRef .tc main_v14_3) : IVec S4096 32) (ix1 b) = _
    rw [stepB_3, back_0, back_1, ctrB (entryB m) c (entryB_ctr m c) k]
    refine (earlier_apply _ ⟨k, by omega⟩ _ b _ (walk b k (by omega))).trans ?_
    rw [origins m c b 384 (Nat.le_refl _) _ (Fin.isLt _), Viterbi.fptosi_nat _ (by omega)]
    rfl

/-- Before trip `k` of the walk back the last `k` steps hold their bits. -/
theorem bits (b : Fin 4096) : ∀ (k : ℕ) (_ : k ≤ 384) (t : Fin 384) (_ : 384 ≤ t.val + k),
    (atB (entryB m) k c (Proc.devRef .tc main_v14_4) : FVec Ideal S384x4096 .f32) (ix2 t b) = Viterbi.decoded (D m c b) t.val
  | 0, _, t, ht => absurd ht (by omega)
  | k + 1, hk, t, ht => by
    show (after body1Ops (after cond1Ops (atB (entryB m) k c)) (Proc.devRef .tc main_v14_4) : FVec Ideal S384x4096 .f32) (ix2 t b) = _
    rw [stepB_4, ctrB (entryB m) c (entryB_ctr m c) k]
    refine (write_apply _ _ ⟨k, by omega⟩ t b _ (walk m c b k (by omega))).trans ?_
    by_cases h : t.val = 383 - k
    · rw [if_pos h]
      unfold Viterbi.decoded
      rw [show 383 - t.val = k by omega]
    · rw [if_neg h]
      exact bits b k (by omega) t (by omega)

theorem last_columns (y : FVec Ideal S384x4096 .f32) (b : Fin 4096) (n : Fin 128) :
    extractStridedSlice S4096x128 ![0, 128] (transpose S4096x384 [1, 0] y Facts₀.transposes_S384x4096_S4096x384_1_0) Facts₀.slices_S4096x384_S4096x128_0_128 (ix2 b n)
      = y (ix2 ⟨128 + n.val, by omega⟩ b) := by
  pointwise

/-- The result. -/
theorem result_apply (b : Fin 4096) (n : Fin 128) :
    (final m c (Proc.devRef .tc main_v16) : FVec Ideal S4096x128 .f32) (ix2 b n) = Viterbi.decoded (D m c b) (128 + n.val) := by
  have h := bits m c b 384 (Nat.le_refl _) ⟨128 + n.val, by omega⟩ (by show 384 ≤ 128 + n.val + 384; omega)
  unfold final
  generalize atB (entryB m) 384 c = X at h ⊢
  rw [post_16]
  exact (last_columns _ b n).trans h

/-- The reference ends with that result and its argument as it was. -/
theorem run (ρ : Dev nD → PrngReg) :
    θ_run (defs (F := Ideal)) (onTc (τ := τ) (main (F := Ideal))) ⟨m, fun _ => 0, ρ⟩
      (fun r => ∀ c : Dev nD, r.2.mem ((c.tc : Thread nD τ).loc main_v16) = final m c (Proc.devRef .tc main_v16)
        ∧ r.2.mem ((c.tc : Thread nD τ).loc main_arg0) = m ((c.tc : Thread nD τ).loc main_arg0)) :=
  (θ_run _ _ _).mono (fun _ h c => ⟨h c main_v16 rfl, (h c main_arg0 rfl).trans (final_arg m c)⟩) (run_main m ρ)

end Cert.ReferenceIdeal.Value
-- ==== Proof.Agree.lean ====
/-
  From the same argument the kernel and the reference leave the same bits.
-/
module

public import proofs.«01_k».proof.Proof.PI.Value
public import proofs.«01_k».proof.Proof.RI.Value

@[expose] public section

set_option maxRecDepth 16384

noncomputable section

namespace Cert.Agree

open Idealize.ShloMosaic Idealize.ShloMosaic.TcCoe

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)
  (hm : m' ((c.tc : Thread Cert.ReferenceIdeal.nD Cert.ReferenceIdeal.τ).loc Cert.ReferenceIdeal.main_arg0)
    = m ((c.tc : Thread Cert.KernelIdeal.nD Cert.KernelIdeal.τ).loc Cert.KernelIdeal.main_arg0))

include hm

theorem arguments : Cert.ReferenceIdeal.Value.x m' c = Cert.KernelIdeal.Value.x m c := by
  funext b n
  exact congrFun hm (ix2 b n)

theorem results : Cert.ReferenceIdeal.Run.final m' c (Proc.devRef .tc Cert.ReferenceIdeal.main_v16) = Cert.KernelIdeal.Value.result m c := by
  funext i
  obtain ⟨b, n, rfl⟩ : ∃ (b : Fin 4096) (n : Fin 128), i = ix2 b n := by
    refine ⟨i 0, i 1, ?_⟩
    funext a
    match a with
    | ⟨0, _⟩ => rfl
    | ⟨1, _⟩ => rfl
  refine (Cert.ReferenceIdeal.Value.result_apply m' c b n).trans ?_
  rw [Cert.KernelIdeal.Value.result_apply m c b n, ← arguments m m' c hm]

end Cert.Agree
-- ==== Proof.lean ====
/- The claims, assembled. -/
module

public import proofs.«01_k».proof.Defs
public import proofs.«01_k».proof.Proof.P.Body
public import proofs.«01_k».proof.Proof.PI.Body
public import proofs.«01_k».proof.Proof.RI.Run
public import proofs.«01_k».proof.Proof.Agree

@[expose] public section

noncomputable section

open Idealize.ShloMosaic Idealize.SL.Sem

theorem Cert.Proof.claim : Cert.Claim :=
  ⟨Cert.Kernel.Gen.facts, Cert.KernelIdeal.Gen.facts, Cert.ReferenceIdeal.Gen.facts,
    fun m ρ _ => Cert.Kernel.Body.frame m ρ,
    fun m ρ _ => Cert.KernelIdeal.Body.frame m ρ,
    fun m ρ _ => Cert.ReferenceIdeal.Run.frame m ρ,
    trivial,
    fun m g m' g' _ hm => ⟨Cert.KernelIdeal.Value.result m, Cert.KernelIdeal.Value.run m g,
      (θ_run _ _ _).mono (fun _ h c => ⟨(h c).1.trans (Cert.Agree.results m m' c (hm c)), (h c).2⟩) (Cert.ReferenceIdeal.Value.run m' g')⟩⟩

end
